-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_no_tied_neighbours [hPre_no_tied_neighbours : Cert.Pre_no_tied_neighbours.Facts] (m : (ℓ : Loc Cert.KernelIdeal.nD Cert.KernelIdeal.τ Cert.KernelIdeal.sig) → Buf (Elt Ideal) ℓ) : Prop :=
  ∀ c : Dev Cert.KernelIdeal.nD,
    (Cert.Pre_no_tied_neighbours.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_no_tied_neighbours.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_tied_neighbours [hPre_no_tied_neighbours : Cert.Pre_no_tied_neighbours.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_tied_neighbours.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_no_tied_neighbours.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_no_tied_neighbours [hKernelIdeal : Cert.KernelIdeal.Facts] [hPre_no_tied_neighbours : Cert.Pre_no_tied_neighbours.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_no_tied_neighbours m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_no_tied_neighbours [hReferenceIdeal : Cert.ReferenceIdeal.Facts] [hPre_no_tied_neighbours : Cert.Pre_no_tied_neighbours.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_tied_neighbours m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "mask" .f32 0xFF61B1E6#32 ⊥

def algebraic_KernelIdeal_ReferenceIdeal_pre_no_tied_neighbours [hKernelIdeal : Cert.KernelIdeal.Facts] [hReferenceIdeal : Cert.ReferenceIdeal.Facts] [hPre_no_tied_neighbours : Cert.Pre_no_tied_neighbours.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_no_tied_neighbours m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v79) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_no_tied_neighbours : Cert.Pre_no_tied_neighbours.Facts),
    quiescent_Kernel (hKernel := hKernel)
    ∧ quiescent_KernelIdeal (hKernelIdeal := hKernelIdeal)
    ∧ quiescent_KernelIdeal_pre_no_tied_neighbours (hKernelIdeal := hKernelIdeal) (hPre_no_tied_neighbours := hPre_no_tied_neighbours)
    ∧ quiescent_ReferenceIdeal (hReferenceIdeal := hReferenceIdeal)
    ∧ quiescent_ReferenceIdeal_pre_no_tied_neighbours (hReferenceIdeal := hReferenceIdeal) (hPre_no_tied_neighbours := hPre_no_tied_neighbours)
    ∧ preserves_Kernel_KernelIdeal
    ∧ algebraic_KernelIdeal_ReferenceIdeal_pre_no_tied_neighbours (hKernelIdeal := hKernelIdeal) (hReferenceIdeal := hReferenceIdeal) (hPre_no_tied_neighbours := hPre_no_tied_neighbours)
-- ==== Pre_no_tied_neighbours.lean ====
abbrev S1x4x8x16x512 : Shape := ⟨5, ![1, 4, 8, 16, 512]⟩
abbrev S1x16384x2x64 : Shape := ⟨4, ![1, 16384, 2, 64]⟩
abbrev S1536x512 : Shape := ⟨2, ![1536, 512]⟩
abbrev S1536 : Shape := ⟨1, ![1536]⟩
abbrev S512x512 : Shape := ⟨2, ![512, 512]⟩
abbrev S512 : Shape := ⟨1, ![512]⟩
abbrev S512x1536 : Shape := ⟨2, ![512, 1536]⟩
abbrev S1x1536 : Shape := ⟨2, ![1, 1536]⟩
abbrev S1x512x3x8x64 : Shape := ⟨5, ![1, 512, 3, 8, 64]⟩
abbrev S3x1x8x512x64 : Shape := ⟨5, ![3, 1, 8, 512, 64]⟩
abbrev S1x1x8x512x64 : Shape := ⟨5, ![1, 1, 8, 512, 64]⟩
abbrev S1x8x512x64 : Shape := ⟨4, ![1, 8, 512, 64]⟩
abbrev S_ : Shape := ⟨0, ![]⟩
abbrev S1x8x512 : Shape := ⟨3, ![1, 8, 512]⟩
abbrev S1x8x512x1 : Shape := ⟨4, ![1, 8, 512, 1]⟩
abbrev S1x4096x64 : Shape := ⟨3, ![1, 4096, 64]⟩
abbrev S1x16384x1x64 : Shape := ⟨4, ![1, 16384, 1, 64]⟩
abbrev S1x16384x64 : Shape := ⟨3, ![1, 16384, 64]⟩
abbrev S1x4096x16384 : Shape := ⟨3, ![1, 4096, 16384]⟩
abbrev S1x4096x33 : Shape := ⟨3, ![1, 4096, 33]⟩
abbrev S1x4096x32 : Shape := ⟨3, ![1, 4096, 32]⟩
abbrev S1x4096x1 : Shape := ⟨3, ![1, 4096, 1]⟩

class Facts : Prop where
  shapeCasts_S1x4x8x16x512_S512x512 : S1x4x8x16x512.ShapeCasts S512x512
  transposes_S1536x512_S512x1536_1_0 : S1536x512.Transposes [1, 0] S512x1536
  bcast_S1536_S1x1536_1 : S1536.BroadcastsInDim S1x1536 (![1] : Fin 1 → Fin S1x1536.rank)
  bcast_S1x1536_S512x1536_0_1 : S1x1536.BroadcastsInDim S512x1536 (![0, 1] : Fin 2 → Fin S512x1536.rank)
  shapeCasts_S512x1536_S1x512x3x8x64 : S512x1536.ShapeCasts S1x512x3x8x64
  transposes_S1x512x3x8x64_S3x1x8x512x64_2_0_3_1_4 : S1x512x3x8x64.Transposes [2, 0, 3, 1, 4] S3x1x8x512x64
  slices_S3x1x8x512x64_S1x1x8x512x64_0_0_0_0_0 : S3x1x8x512x64.Slices ![0, 0, 0, 0, 0] S1x1x8x512x64
  shapeCasts_S1x1x8x512x64_S1x8x512x64 : S1x1x8x512x64.ShapeCasts S1x8x512x64
  reducesTo_S1x8x512x64_S1x8x512_d3 : S1x8x512x64.ReducesTo [3] S1x8x512
  h_S_ : 0 < S_.numel
  bcast_S1x8x512_S1x8x512x1_0_1_2 : S1x8x512.BroadcastsInDim S1x8x512x1 (![0, 1, 2] : Fin 3 → Fin S1x8x512x1.rank)
  bcast_S_S1x8x512x1 : S_.BroadcastsInDim S1x8x512x1 (![] : Fin 0 → Fin S1x8x512x1.rank)
  bcast_S1x8x512x1_S1x8x512x64_0_1_2_3 : S1x8x512x1.BroadcastsInDim S1x8x512x64 (![0, 1, 2, 3] : Fin 4 → Fin S1x8x512x64.rank)
  shapeCasts_S1x8x512x64_S1x4096x64 : S1x8x512x64.ShapeCasts S1x4096x64
  slices_S1x16384x2x64_S1x16384x1x64_0_0_0_0 : S1x16384x2x64.Slices ![0, 0, 0, 0] S1x16384x1x64
  shapeCasts_S1x16384x1x64_S1x16384x64 : S1x16384x1x64.ShapeCasts S1x16384x64
  sliceFits_S1x4096x16384_S1x4096x33 : S1x4096x16384.Slices (fun _ => 0) S1x4096x33
  slices_S1x4096x33_S1x4096x32_0_0_0 : S1x4096x33.Slices ![0, 0, 0] S1x4096x32
  slices_S1x4096x33_S1x4096x32_0_0_1 : S1x4096x33.Slices ![0, 0, 1] S1x4096x32
  slices_S1x4096x33_S1x4096x1_0_0_0 : S1x4096x33.Slices ![0, 0, 0] S1x4096x1
  bcast_S_S1x4096x1 : S_.BroadcastsInDim S1x4096x1 (![] : Fin 0 → Fin S1x4096x1.rank)
  dot_S512x512_S512x1536_S512x1536_1_0_0_1_n_n_wf : DotDims.WF S512x512 S512x1536 S512x1536 [1] [0] [0] [1] [] []
  dot_S1x4096x64_S1x16384x64_S1x4096x16384_2_2_1_1_0_0_wf : DotDims.WF S1x4096x64 S1x16384x64 S1x4096x16384 [2] [2] [1] [1] [0] [0]

variable [Facts]

def dot_S512x512_S512x1536_S512x1536_1_0_0_1_n_n : DotDims S512x512 S512x1536 S512x1536 where
  lhsContracting := [1]
  rhsContracting := [0]
  lhsNonContracting := [0]
  rhsNonContracting := [1]
  lhsBatch := []
  rhsBatch := []
  wf := dot_S512x512_S512x1536_S512x1536_1_0_0_1_n_n_wf
def dot_S1x4096x64_S1x16384x64_S1x4096x16384_2_2_1_1_0_0 : DotDims S1x4096x64 S1x16384x64 S1x4096x16384 where
  lhsContracting := [2]
  rhsContracting := [2]
  lhsNonContracting := [1]
  rhsNonContracting := [1]
  lhsBatch := [0]
  rhsBatch := [0]
  wf := dot_S1x4096x64_S1x16384x64_S1x4096x16384_2_2_1_1_0_0_wf
def fn_part1 {F : FTy → Type} [FloatOps F] (main_v21 : FVec F S1x4096x16384 .f32) : IVec S1x4096x32 1 × IVec S1x4096x1 1 :=
  let main_values : FVec F S1x4096x33 .f32 := (fun x => (Host.topK S1x4096x33 2 (FloatOps.cmpfTotal .gt) x sliceFits_S1x4096x16384_S1x4096x33).1) main_v21
  let main_indices : IVec S1x4096x33 32 := (fun x => (Host.topK S1x4096x33 2 (FloatOps.cmpfTotal .gt) x sliceFits_S1x4096x16384_S1x4096x33).2) main_v21
  let main_v22 : FVec F S1x4096x32 .f32 := (extractStridedSlice S1x4096x32 ![0, 0, 0] · slices_S1x4096x33_S1x4096x32_0_0_0) main_values
  let main_v23 : FVec F S1x4096x32 .f32 := (extractStridedSlice S1x4096x32 ![0, 0, 1] · slices_S1x4096x33_S1x4096x32_0_0_1) main_values
  let main_v24 : IVec S1x4096x32 1 := cmpf .ogt main_v22 main_v23
  let main_v25 : FVec F S1x4096x1 .f32 := (extractStridedSlice S1x4096x1 ![0, 0, 0] · slices_S1x4096x33_S1x4096x1_0_0_0) main_values
  let main_cst_1 : FVec F S_ .f32 := constant S_ .f32 0x7F800000#32
  let main_v26 : FVec F S1x4096x1 .f32 := broadcastInDim S1x4096x1 ![] bcast_S_S1x4096x1 main_cst_1
  let main_v27 : IVec S1x4096x1 1 := cmpf .olt main_v25 main_v26
  (main_v24, main_v27)

def fn {F : FTy → Type} [FloatOps F] (main_arg0 : FVec F S1x4x8x16x512 .f32) (main_arg1 : FVec F S1x16384x2x64 .f32) (main_arg2 : FVec F S1536x512 .f32) (main_arg3 : FVec F S1536 .f32) (main_arg4 : FVec F S512x512 .f32) (main_arg5 : FVec F S512 .f32) : IVec S1x4096x32 1 × IVec S1x4096x1 1 :=
  let main_v0 : FVec F S512x512 .f32 := shapeCast S512x512 main_arg0 shapeCasts_S1x4x8x16x512_S512x512
  let main_v1 : FVec F S512x1536 .f32 := (transpose S512x1536 [1, 0] · transposes_S1536x512_S512x1536_1_0) main_arg2
  let main_v2 : FVec F S512x1536 .f32 := (fun l r => Host.dotGeneral dot_S512x512_S512x1536_S512x1536_1_0_0_1_n_n none l r) main_v0 main_v1
  let main_v3 : FVec F S1x1536 .f32 := broadcastInDim S1x1536 ![1] bcast_S1536_S1x1536_1 main_arg3
  let main_v4 : FVec F S512x1536 .f32 := broadcastInDim S512x1536 ![0, 1] bcast_S1x1536_S512x1536_0_1 main_v3
  let main_v5 : FVec F S512x1536 .f32 := addf main_v2 main_v4
  let main_v6 : FVec F S1x512x3x8x64 .f32 := shapeCast S1x512x3x8x64 main_v5 shapeCasts_S512x1536_S1x512x3x8x64
  let main_v7 : FVec F S3x1x8x512x64 .f32 := (transpose S3x1x8x512x64 [2, 0, 3, 1, 4] · transposes_S1x512x3x8x64_S3x1x8x512x64_2_0_3_1_4) main_v6
  let main_v8 : FVec F S1x1x8x512x64 .f32 := (extractStridedSlice S1x1x8x512x64 ![0, 0, 0, 0, 0] · slices_S3x1x8x512x64_S1x1x8x512x64_0_0_0_0_0) main_v7
  let main_v9 : FVec F S1x8x512x64 .f32 := shapeCast S1x8x512x64 main_v8 shapeCasts_S1x1x8x512x64_S1x8x512x64
  let main_v10 : FVec F S1x8x512x64 .f32 := mulf main_v9 main_v9
  let main_cst : FVec F S_ .f32 := constant S_ .f32 0x00000000#32
  let main_v11 : FVec F S1x8x512 .f32 := (fun x v => Host.reduceAdd x v reducesTo_S1x8x512x64_S1x8x512_d3 h_S_) main_v10 main_cst
  let main_v12 : FVec F S1x8x512x1 .f32 := broadcastInDim S1x8x512x1 ![0, 1, 2] bcast_S1x8x512_S1x8x512x1_0_1_2 main_v11
  let main_v13 : FVec F S1x8x512x1 .f32 := Host.sqrt main_v12
  let main_cst_0 : FVec F S_ .f32 := constant S_ .f32 0x2B8CBCCC#32
  let main_v14 : FVec F S1x8x512x1 .f32 := broadcastInDim S1x8x512x1 ![] bcast_S_S1x8x512x1 main_cst_0
  let main_v15 : FVec F S1x8x512x1 .f32 := maximumf main_v13 main_v14
  let main_v16 : FVec F S1x8x512x64 .f32 := broadcastInDim S1x8x512x64 ![0, 1, 2, 3] bcast_S1x8x512x1_S1x8x512x64_0_1_2_3 main_v15
  let main_v17 : FVec F S1x8x512x64 .f32 := Host.divf main_v9 main_v16
  let main_v18 : FVec F S1x4096x64 .f32 := shapeCast S1x4096x64 main_v17 shapeCasts_S1x8x512x64_S1x4096x64
  let main_v19 : FVec F S1x16384x1x64 .f32 := (extractStridedSlice S1x16384x1x64 ![0, 0, 0, 0] · slices_S1x16384x2x64_S1x16384x1x64_0_0_0_0) main_arg1
  let main_v20 : FVec F S1x16384x64 .f32 := shapeCast S1x16384x64 main_v19 shapeCasts_S1x16384x1x64_S1x16384x64
  let main_v21 : FVec F S1x4096x16384 .f32 := (fun l r => Host.dotGeneral dot_S1x4096x64_S1x16384x64_S1x4096x16384_2_2_1_1_0_0 none l r) main_v18 main_v20
  fn_part1 (F := F) main_v21
-- ==== Kernel.lean ====
abbrev S1x4x8x16x512 : Shape := ⟨5, ![1, 4, 8, 16, 512]⟩
abbrev S1x16384x2x64 : Shape := ⟨4, ![1, 16384, 2, 64]⟩
abbrev S1536x512 : Shape := ⟨2, ![1536, 512]⟩
abbrev S1536 : Shape := ⟨1, ![1536]⟩
abbrev S512x512 : Shape := ⟨2, ![512, 512]⟩
abbrev S512 : Shape := ⟨1, ![512]⟩
abbrev S_ : Shape := ⟨0, ![]⟩
abbrev S1536x1 : Shape := ⟨2, ![1536, 1]⟩
abbrev S24 : Shape := ⟨1, ![24]⟩
abbrev S1x24 : Shape := ⟨2, ![1, 24]⟩
abbrev S1536x24 : Shape := ⟨2, ![1536, 24]⟩
abbrev S512x1536 : Shape := ⟨2, ![512, 1536]⟩
abbrev S1x1536 : Shape := ⟨2, ![1, 1536]⟩
abbrev S24x1536 : Shape := ⟨2, ![24, 1536]⟩
abbrev S512x24 : Shape := ⟨2, ![512, 24]⟩
abbrev S512x3x8x64 : Shape := ⟨4, ![512, 3, 8, 64]⟩
abbrev S512x1x8x64 : Shape := ⟨4, ![512, 1, 8, 64]⟩
abbrev S512x8x64 : Shape := ⟨3, ![512, 8, 64]⟩
abbrev S8x512x64 : Shape := ⟨3, ![8, 512, 64]⟩
abbrev S4096x64 : Shape := ⟨2, ![4096, 64]⟩
abbrev S1x16384x1x64 : Shape := ⟨4, ![1, 16384, 1, 64]⟩
abbrev S16384x64 : Shape := ⟨2, ![16384, 64]⟩
abbrev S64x16384 : Shape := ⟨2, ![64, 16384]⟩
abbrev S128x64 : Shape := ⟨2, ![128, 64]⟩
abbrev S128x16384 : Shape := ⟨2, ![128, 16384]⟩
abbrev S128 : Shape := ⟨1, ![128]⟩
abbrev S128x1 : Shape := ⟨2, ![128, 1]⟩
abbrev S1x512 : Shape := ⟨2, ![1, 512]⟩

abbrev nBuf : Space → Nat
  | .hbm => 61
  | .vmem => 20
  | .smem => 0
  | _ => 0

abbrev bufTy : (tb : Table) → Fin (tcTables nBuf tb) → BufTy
  | .hbm, ⟨0, _⟩ => ⟨S1x4x8x16x512, .f32⟩
  | .hbm, ⟨1, _⟩ => ⟨S1x16384x2x64, .f32⟩
  | .hbm, ⟨2, _⟩ => ⟨S1536x512, .f32⟩
  | .hbm, ⟨3, _⟩ => ⟨S1536, .f32⟩
  | .hbm, ⟨4, _⟩ => ⟨S512x512, .f32⟩
  | .hbm, ⟨5, _⟩ => ⟨S512, .f32⟩
  | .hbm, ⟨6, _⟩ => ⟨S512x512, .f32⟩
  | .hbm, ⟨7, _⟩ => ⟨S1536, .i32⟩
  | .hbm, ⟨8, _⟩ => ⟨S_, .i32⟩
  | .hbm, ⟨9, _⟩ => ⟨S_, .i32⟩
  | .hbm, ⟨10, _⟩ => ⟨S1536, .i32⟩
  | .hbm, ⟨11, _⟩ => ⟨S1536, .i32⟩
  | .hbm, ⟨12, _⟩ => ⟨S1536, .i32⟩
  | .hbm, ⟨13, _⟩ => ⟨S_, .i32⟩
  | .hbm, ⟨14, _⟩ => ⟨S1536, .i32⟩
  | .hbm, ⟨15, _⟩ => ⟨S1536, .i1⟩
  | .hbm, ⟨16, _⟩ => ⟨S1536, .i32⟩
  | .hbm, ⟨17, _⟩ => ⟨S1536, .i32⟩
  | .hbm, ⟨18, _⟩ => ⟨S_, .i32⟩
  | .hbm, ⟨19, _⟩ => ⟨S1536, .i32⟩
  | .hbm, ⟨20, _⟩ => ⟨S1536, .i1⟩
  | .hbm, ⟨21, _⟩ => ⟨S1536, .i1⟩
  | .hbm, ⟨22, _⟩ => ⟨S_, .i32⟩
  | .hbm, ⟨23, _⟩ => ⟨S1536, .i32⟩
  | .hbm, ⟨24, _⟩ => ⟨S1536, .i32⟩
  | .hbm, ⟨25, _⟩ => ⟨S1536, .i32⟩
  | .hbm, ⟨26, _⟩ => ⟨S1536x1, .i32⟩
  | .hbm, ⟨27, _⟩ => ⟨S24, .i32⟩
  | .hbm, ⟨28, _⟩ => ⟨S1x24, .i32⟩
  | .hbm, ⟨29, _⟩ => ⟨S1536x24, .i32⟩
  | .hbm, ⟨30, _⟩ => ⟨S1536x24, .i32⟩
  | .hbm, ⟨31, _⟩ => ⟨S1536x24, .i1⟩
  | .hbm, ⟨32, _⟩ => ⟨S1536x24, .f32⟩
  | .hbm, ⟨33, _⟩ => ⟨S512x1536, .f32⟩
  | .hbm, ⟨34, _⟩ => ⟨S1x1536, .f32⟩
  | .hbm, ⟨35, _⟩ => ⟨S24x1536, .f32⟩
  | .hbm, ⟨36, _⟩ => ⟨S512x1536, .f32⟩
  | .hbm, ⟨37, _⟩ => ⟨S512x3x8x64, .f32⟩
  | .hbm, ⟨38, _⟩ => ⟨S512x1x8x64, .f32⟩
  | .hbm, ⟨39, _⟩ => ⟨S512x8x64, .f32⟩
  | .hbm, ⟨40, _⟩ => ⟨S8x512x64, .f32⟩
  | .hbm, ⟨41, _⟩ => ⟨S4096x64, .f32⟩
  | .hbm, ⟨42, _⟩ => ⟨S512x1x8x64, .f32⟩
  | .hbm, ⟨43, _⟩ => ⟨S512x8x64, .f32⟩
  | .hbm, ⟨44, _⟩ => ⟨S8x512x64, .f32⟩
  | .hbm, ⟨45, _⟩ => ⟨S4096x64, .f32⟩
  | .hbm, ⟨46, _⟩ => ⟨S512x1x8x64, .f32⟩
  | .hbm, ⟨47, _⟩ => ⟨S512x8x64, .f32⟩
  | .hbm, ⟨48, _⟩ => ⟨S8x512x64, .f32⟩
  | .hbm, ⟨49, _⟩ => ⟨S4096x64, .f32⟩
  | .hbm, ⟨50, _⟩ => ⟨S1x16384x1x64, .f32⟩
  | .hbm, ⟨51, _⟩ => ⟨S16384x64, .f32⟩
  | .hbm, ⟨52, _⟩ => ⟨S64x16384, .f32⟩
  | .hbm, ⟨53, _⟩ => ⟨S1x16384x1x64, .f32⟩
  | .hbm, ⟨54, _⟩ => ⟨S16384x64, .f32⟩
  | .hbm, ⟨55, _⟩ => ⟨S4096x64, .f32⟩
  | .hbm, ⟨56, _⟩ => ⟨S512x512, .f32⟩
  | .hbm, ⟨57, _⟩ => ⟨S512x512, .f32⟩
  | .hbm, ⟨58, _⟩ => ⟨S1x512, .f32⟩
  | .hbm, ⟨59, _⟩ => ⟨S512x512, .f32⟩
  | .hbm, ⟨60, _⟩ => ⟨S1x4x8x16x512, .f32⟩
  | .local _ .vmem, ⟨0, _⟩ => ⟨S512x512, .f32⟩
  | .local _ .vmem, ⟨1, _⟩ => ⟨S512x1536, .f32⟩
  | .local _ .vmem, ⟨2, _⟩ => ⟨S1x1536, .f32⟩
  | .local _ .vmem, ⟨3, _⟩ => ⟨S1536x24, .f32⟩
  | .local _ .vmem, ⟨4, _⟩ => ⟨S24x1536, .f32⟩
  | .local _ .vmem, ⟨5, _⟩ => ⟨S512x1536, .f32⟩
  | .local _ .vmem, ⟨6, _⟩ => ⟨S128x64, .f32⟩
  | .local _ .vmem, ⟨7, _⟩ => ⟨S128x64, .f32⟩
  | .local _ .vmem, ⟨8, _⟩ => ⟨S128x64, .f32⟩
  | .local _ .vmem, ⟨9, _⟩ => ⟨S128x64, .f32⟩
  | .local _ .vmem, ⟨10, _⟩ => ⟨S128x64, .f32⟩
  | .local _ .vmem, ⟨11, _⟩ => ⟨S128x64, .f32⟩
  | .local _ .vmem, ⟨12, _⟩ => ⟨S64x16384, .f32⟩
  | .local _ .vmem, ⟨13, _⟩ => ⟨S16384x64, .f32⟩
  | .local _ .vmem, ⟨14, _⟩ => ⟨S128x64, .f32⟩
  | .local _ .vmem, ⟨15, _⟩ => ⟨S128x64, .f32⟩
  | .local _ .vmem, ⟨16, _⟩ => ⟨S512x512, .f32⟩
  | .local _ .vmem, ⟨17, _⟩ => ⟨S512x512, .f32⟩
  | .local _ .vmem, ⟨18, _⟩ => ⟨S1x512, .f32⟩
  | .local _ .vmem, ⟨19, _⟩ => ⟨S512x512, .f32⟩
  | _, _ => ⟨S1x4x8x16x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem1_0 : DmaSem sig := 17
abbrev cc2_sem2_0 : DmaSem sig := 18
abbrev cc2_sem3_0 : DmaSem sig := 19

abbrev nD : Nat := 1
abbrev τ : Topo := Topo.v7x

variable {F : FTy → Type} [FloatOps F]

abbrev grid0 : Pipeline.Grid := .none

abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1536x24 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S24x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S128x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S128x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x16384 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S16384x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S128x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := .none

abbrev stage2_0 : Fin 1 → Memref sig .tc .vmem S512x512 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S512x512 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S1x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S512x512 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S1x4x8x16x512 : Shape := ⟨5, ![1, 4, 8, 16, 512]⟩
abbrev S1x16384x2x64 : Shape := ⟨4, ![1, 16384, 2, 64]⟩
abbrev S1536x512 : Shape := ⟨2, ![1536, 512]⟩
abbrev S1536 : Shape := ⟨1, ![1536]⟩
abbrev S512x512 : Shape := ⟨2, ![512, 512]⟩
abbrev S512 : Shape := ⟨1, ![512]⟩
abbrev S512x1536 : Shape := ⟨2, ![512, 1536]⟩
abbrev S1x1536 : Shape := ⟨2, ![1, 1536]⟩
abbrev S1x512x3x8x64 : Shape := ⟨5, ![1, 512, 3, 8, 64]⟩
abbrev S3x1x8x512x64 : Shape := ⟨5, ![3, 1, 8, 512, 64]⟩
abbrev S1x1x8x512x64 : Shape := ⟨5, ![1, 1, 8, 512, 64]⟩
abbrev S1x8x512x64 : Shape := ⟨4, ![1, 8, 512, 64]⟩
abbrev S_ : Shape := ⟨0, ![]⟩
abbrev S1x8x512 : Shape := ⟨3, ![1, 8, 512]⟩
abbrev S1x8x512x1 : Shape := ⟨4, ![1, 8, 512, 1]⟩
abbrev S1x16384x1x64 : Shape := ⟨4, ![1, 16384, 1, 64]⟩
abbrev S1x16384x64 : Shape := ⟨3, ![1, 16384, 64]⟩
abbrev S1x4096x64 : Shape := ⟨3, ![1, 4096, 64]⟩
abbrev S1x4096x16384 : Shape := ⟨3, ![1, 4096, 16384]⟩
abbrev S1x4096x32 : Shape := ⟨3, ![1, 4096, 32]⟩
abbrev S1x4096x32x1 : Shape := ⟨4, ![1, 4096, 32, 1]⟩
abbrev S1x4096x32x2x64 : Shape := ⟨5, ![1, 4096, 32, 2, 64]⟩
abbrev S1x8x512x32x2x64 : Shape := ⟨6, ![1, 8, 512, 32, 2, 64]⟩
abbrev S1x8x512x32x1x64 : Shape := ⟨6, ![1, 8, 512, 32, 1, 64]⟩
abbrev S1x8x512x32x64 : Shape := ⟨5, ![1, 8, 512, 32, 64]⟩
abbrev S1x8x512x1x64 : Shape := ⟨5, ![1, 8, 512, 1, 64]⟩
abbrev S1x8x512x33x64 : Shape := ⟨5, ![1, 8, 512, 33, 64]⟩
abbrev S1x8x512x64x33 : Shape := ⟨5, ![1, 8, 512, 64, 33]⟩
abbrev S8x512x1x64 : Shape := ⟨4, ![8, 512, 1, 64]⟩
abbrev S8x512x64x33 : Shape := ⟨4, ![8, 512, 64, 33]⟩
abbrev S8x512x1x33 : Shape := ⟨4, ![8, 512, 1, 33]⟩
abbrev S1x8x512x1x33 : Shape := ⟨5, ![1, 8, 512, 1, 33]⟩
abbrev S1x8x512x1x1 : Shape := ⟨5, ![1, 8, 512, 1, 1]⟩
abbrev S8x512x33x64 : Shape := ⟨4, ![8, 512, 33, 64]⟩
abbrev S1x8x1x512x64 : Shape := ⟨5, ![1, 8, 1, 512, 64]⟩
abbrev S1x512 : Shape := ⟨2, ![1, 512]⟩

abbrev nBuf : Space → Nat
  | .hbm => 105
  | .vmem => 0
  | .smem => 0
  | _ => 0

abbrev bufTy : (tb : Table) → Fin (tcTables nBuf tb) → BufTy
  | .hbm, ⟨0, _⟩ => ⟨S1x4x8x16x512, .f32⟩
  | .hbm, ⟨1, _⟩ => ⟨S1x16384x2x64, .f32⟩
  | .hbm, ⟨2, _⟩ => ⟨S1536x512, .f32⟩
  | .hbm, ⟨3, _⟩ => ⟨S1536, .f32⟩
  | .hbm, ⟨4, _⟩ => ⟨S512x512, .f32⟩
  | .hbm, ⟨5, _⟩ => ⟨S512, .f32⟩
  | .hbm, ⟨6, _⟩ => ⟨S512x512, .f32⟩
  | .hbm, ⟨7, _⟩ => ⟨S512x1536, .f32⟩
  | .hbm, ⟨8, _⟩ => ⟨S512x1536, .f32⟩
  | .hbm, ⟨9, _⟩ => ⟨S1x1536, .f32⟩
  | .hbm, ⟨10, _⟩ => ⟨S512x1536, .f32⟩
  | .hbm, ⟨11, _⟩ => ⟨S512x1536, .f32⟩
  | .hbm, ⟨12, _⟩ => ⟨S1x512x3x8x64, .f32⟩
  | .hbm, ⟨13, _⟩ => ⟨S3x1x8x512x64, .f32⟩
  | .hbm, ⟨14, _⟩ => ⟨S1x1x8x512x64, .f32⟩
  | .hbm, ⟨15, _⟩ => ⟨S1x8x512x64, .f32⟩
  | .hbm, ⟨16, _⟩ => ⟨S1x1x8x512x64, .f32⟩
  | .hbm, ⟨17, _⟩ => ⟨S1x8x512x64, .f32⟩
  | .hbm, ⟨18, _⟩ => ⟨S1x1x8x512x64, .f32⟩
  | .hbm, ⟨19, _⟩ => ⟨S1x8x512x64, .f32⟩
  | .hbm, ⟨20, _⟩ => ⟨S1x8x512x64, .f32⟩
  | .hbm, ⟨21, _⟩ => ⟨S_, .f32⟩
  | .hbm, ⟨22, _⟩ => ⟨S1x8x512, .f32⟩
  | .hbm, ⟨23, _⟩ => ⟨S1x8x512x1, .f32⟩
  | .hbm, ⟨24, _⟩ => ⟨S1x8x512x1, .f32⟩
  | .hbm, ⟨25, _⟩ => ⟨S_, .f32⟩
  | .hbm, ⟨26, _⟩ => ⟨S1x8x512x1, .f32⟩
  | .hbm, ⟨27, _⟩ => ⟨S1x8x512x1, .f32⟩
  | .hbm, ⟨28, _⟩ => ⟨S1x8x512x64, .f32⟩
  | .hbm, ⟨29, _⟩ => ⟨S1x8x512x64, .f32⟩
  | .hbm, ⟨30, _⟩ => ⟨S1x8x512x64, .f32⟩
  | .hbm, ⟨31, _⟩ => ⟨S_, .f32⟩
  | .hbm, ⟨32, _⟩ => ⟨S1x8x512, .f32⟩
  | .hbm, ⟨33, _⟩ => ⟨S1x8x512x1, .f32⟩
  | .hbm, ⟨34, _⟩ => ⟨S1x8x512x1, .f32⟩
  | .hbm, ⟨35, _⟩ => ⟨S_, .f32⟩
  | .hbm, ⟨36, _⟩ => ⟨S1x8x512x1, .f32⟩
  | .hbm, ⟨37, _⟩ => ⟨S1x8x512x1, .f32⟩
  | .hbm, ⟨38, _⟩ => ⟨S1x8x512x64, .f32⟩
  | .hbm, ⟨39, _⟩ => ⟨S1x8x512x64, .f32⟩
  | .hbm, ⟨40, _⟩ => ⟨S1x16384x1x64, .f32⟩
  | .hbm, ⟨41, _⟩ => ⟨S1x16384x64, .f32⟩
  | .hbm, ⟨42, _⟩ => ⟨S1x4096x64, .f32⟩
  | .hbm, ⟨43, _⟩ => ⟨S1x4096x16384, .f32⟩
  | .hbm, ⟨44, _⟩ => ⟨S1x4096x32, .f32⟩
  | .hbm, ⟨45, _⟩ => ⟨S1x4096x32, .i32⟩
  | .hbm, ⟨46, _⟩ => ⟨S_, .i32⟩
  | .hbm, ⟨47, _⟩ => ⟨S1x4096x32, .i32⟩
  | .hbm, ⟨48, _⟩ => ⟨S1x4096x32, .i1⟩
  | .hbm, ⟨49, _⟩ => ⟨S_, .i32⟩
  | .hbm, ⟨50, _⟩ => ⟨S1x4096x32, .i32⟩
  | .hbm, ⟨51, _⟩ => ⟨S1x4096x32, .i32⟩
  | .hbm, ⟨52, _⟩ => ⟨S1x4096x32, .i32⟩
  | .hbm, ⟨53, _⟩ => ⟨S1x4096x32x1, .i32⟩
  | .hbm, ⟨54, _⟩ => ⟨S1x4096x32x2x64, .f32⟩
  | .hbm, ⟨55, _⟩ => ⟨S1x8x512x32x2x64, .f32⟩
  | .hbm, ⟨56, _⟩ => ⟨S1x8x512x32x1x64, .f32⟩
  | .hbm, ⟨57, _⟩ => ⟨S1x8x512x32x64, .f32⟩
  | .hbm, ⟨58, _⟩ => ⟨S1x8x512x32x1x64, .f32⟩
  | .hbm, ⟨59, _⟩ => ⟨S1x8x512x32x64, .f32⟩
  | .hbm, ⟨60, _⟩ => ⟨S1x8x512x1x64, .f32⟩
  | .hbm, ⟨61, _⟩ => ⟨S1x8x512x33x64, .f32⟩
  | .hbm, ⟨62, _⟩ => ⟨S1x8x512x1x64, .f32⟩
  | .hbm, ⟨63, _⟩ => ⟨S1x8x512x33x64, .f32⟩
  | .hbm, ⟨64, _⟩ => ⟨S1x8x512x1x64, .f32⟩
  | .hbm, ⟨65, _⟩ => ⟨S1x8x512x64x33, .f32⟩
  | .hbm, ⟨66, _⟩ => ⟨S8x512x1x64, .f32⟩
  | .hbm, ⟨67, _⟩ => ⟨S8x512x64x33, .f32⟩
  | .hbm, ⟨68, _⟩ => ⟨S8x512x1x33, .f32⟩
  | .hbm, ⟨69, _⟩ => ⟨S1x8x512x1x33, .f32⟩
  | .hbm, ⟨70, _⟩ => ⟨S_, .f32⟩
  | .hbm, ⟨71, _⟩ => ⟨S1x8x512x1x33, .f32⟩
  | .hbm, ⟨72, _⟩ => ⟨S1x8x512x1x33, .f32⟩
  | .hbm, ⟨73, _⟩ => ⟨S_, .f32⟩
  | .hbm, ⟨74, _⟩ => ⟨S1x8x512x1, .f32⟩
  | .hbm, ⟨75, _⟩ => ⟨S1x8x512x1x1, .f32⟩
  | .hbm, ⟨76, _⟩ => ⟨S1x8x512x1x33, .f32⟩
  | .hbm, ⟨77, _⟩ => ⟨S1x8x512x1x33, .f32⟩
  | .hbm, ⟨78, _⟩ => ⟨S_, .f32⟩
  | .hbm, ⟨79, _⟩ => ⟨S1x8x512x1, .f32⟩
  | .hbm, ⟨80, _⟩ => ⟨S_, .f32⟩
  | .hbm, ⟨81, _⟩ => ⟨S1x8x512x1, .f32⟩
  | .hbm, ⟨82, _⟩ => ⟨S1x8x512x1, .f32⟩
  | .hbm, ⟨83, _⟩ => ⟨S1x8x512x1x1, .f32⟩
  | .hbm, ⟨84, _⟩ => ⟨S1x8x512x1x33, .f32⟩
  | .hbm, ⟨85, _⟩ => ⟨S1x8x512x1x33, .f32⟩
  | .hbm, ⟨86, _⟩ => ⟨S1x8x512x1x33, .f32⟩
  | .hbm, ⟨87, _⟩ => ⟨S_, .f32⟩
  | .hbm, ⟨88, _⟩ => ⟨S1x8x512x1, .f32⟩
  | .hbm, ⟨89, _⟩ => ⟨S1x8x512x1x1, .f32⟩
  | .hbm, ⟨90, _⟩ => ⟨S1x8x512x1x33, .f32⟩
  | .hbm, ⟨91, _⟩ => ⟨S1x8x512x1x33, .f32⟩
  | .hbm, ⟨92, _⟩ => ⟨S8x512x1x33, .f32⟩
  | .hbm, ⟨93, _⟩ => ⟨S8x512x33x64, .f32⟩
  | .hbm, ⟨94, _⟩ => ⟨S8x512x1x64, .f32⟩
  | .hbm, ⟨95, _⟩ => ⟨S1x8x512x1x64, .f32⟩
  | .hbm, ⟨96, _⟩ => ⟨S1x8x1x512x64, .f32⟩
  | .hbm, ⟨97, _⟩ => ⟨S1x4x8x16x512, .f32⟩
  | .hbm, ⟨98, _⟩ => ⟨S512x512, .f32⟩
  | .hbm, ⟨99, _⟩ => ⟨S512x512, .f32⟩
  | .hbm, ⟨100, _⟩ => ⟨S512x512, .f32⟩
  | .hbm, ⟨101, _⟩ => ⟨S1x512, .f32⟩
  | .hbm, ⟨102, _⟩ => ⟨S512x512, .f32⟩
  | .hbm, ⟨103, _⟩ => ⟨S512x512, .f32⟩
  | .hbm, ⟨104, _⟩ => ⟨S1x4x8x16x512, .f32⟩
  | _, _ => ⟨S1x4x8x16x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_call0_v0 : Ref sig .tc := ⟨.hbm, 20, rfl⟩
abbrev main_call0_cst : Ref sig .tc := ⟨.hbm, 21, rfl⟩
abbrev main_call0_v1 : Ref sig .tc := ⟨.hbm, 22, rfl⟩
abbrev main_call0_v2 : Ref sig .tc := ⟨.hbm, 23, rfl⟩
abbrev main_v14 : Ref sig .tc := ⟨.hbm, 24, rfl⟩
abbrev main_cst : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_call1_v0 : Ref sig .tc := ⟨.hbm, 30, rfl⟩
abbrev main_call1_cst : Ref sig .tc := ⟨.hbm, 31, rfl⟩
abbrev main_call1_v1 : Ref sig .tc := ⟨.hbm, 32, rfl⟩
abbrev main_call1_v2 : Ref sig .tc := ⟨.hbm, 33, rfl⟩
abbrev main_v19 : Ref sig .tc := ⟨.hbm, 34, rfl⟩
abbrev main_cst_0 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_values : Ref sig .tc := ⟨.hbm, 44, rfl⟩
abbrev main_indices : Ref sig .tc := ⟨.hbm, 45, rfl⟩
abbrev main_c : Ref sig .tc := ⟨.hbm, 46, rfl⟩
abbrev main_v28 : Ref sig .tc := ⟨.hbm, 47, rfl⟩
abbrev main_v29 : Ref sig .tc := ⟨.hbm, 48, rfl⟩
abbrev main_c_1 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_2 : Ref sig .tc := ⟨.hbm, 70, rfl⟩
abbrev main_v50 : Ref sig .tc := ⟨.hbm, 71, rfl⟩
abbrev main_v51 : Ref sig .tc := ⟨.hbm, 72, rfl⟩
abbrev main_cst_3 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_4 : Ref sig .tc := ⟨.hbm, 78, rfl⟩
abbrev main_v56 : Ref sig .tc := ⟨.hbm, 79, rfl⟩
abbrev main_cst_5 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_6 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩

abbrev nD : Nat := 1
abbrev τ : Topo := Topo.v7x

variable {F : FTy → Type} [FloatOps F]
-- ==== Proof.KernelRun.lean ====
/- The whole run of the idealised kernel, read at its result: every execution ends with the result array at what the
   segments' fold leaves in it, and the argument arrays as launched. -/
module

public import proofs.«01_k».proof.Proof.Gen.KernelIdeal.Frame

@[expose] public section

set_option maxRecDepth 16384

noncomputable section

namespace Cert.KernelIdeal.Val

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters, every weakly fair execution of the program ends with the result array at the
    last boundary's contents and the argument arrays as launched. -/
theorem run : θ_run defs (onTc (τ := τ) (main (F := F))) ⟨m, fun _ => 0, ρ⟩ (fun r => ∀ c : Dev nD,
      r.2.mem ((c.tc : Thread nD τ).loc main_v37) = W9 m ρ c (Proc.devRef .tc main_v37)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h _ c =>
      ⟨h c _ (mem_uc main_v37 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.Val

end
-- ==== Proof.PreFacts.lean ====
/- The shape relations the precondition's operations state, each decided. -/
module

public import proofs.«01_k».proof.Pre_no_tied_neighbours
public import Idealize.ShloMosaic.Lib.Decide

@[expose] public section

set_option maxRecDepth 16384

namespace Cert.Pre_no_tied_neighbours.Gen

open Idealize.ShloMosaic

/-- Every shape relation the precondition states holds. -/
theorem facts : Facts where
  shapeCasts_S1x4x8x16x512_S512x512 := by decide
  transposes_S1536x512_S512x1536_1_0 := by decide
  bcast_S1536_S1x1536_1 := by decide
  bcast_S1x1536_S512x1536_0_1 := by decide
  shapeCasts_S512x1536_S1x512x3x8x64 := by decide
  transposes_S1x512x3x8x64_S3x1x8x512x64_2_0_3_1_4 := by decide
  slices_S3x1x8x512x64_S1x1x8x512x64_0_0_0_0_0 := by decide
  shapeCasts_S1x1x8x512x64_S1x8x512x64 := by decide
  reducesTo_S1x8x512x64_S1x8x512_d3 := by decide
  h_S_ := by decide
  bcast_S1x8x512_S1x8x512x1_0_1_2 := by decide
  bcast_S_S1x8x512x1 := by decide
  bcast_S1x8x512x1_S1x8x512x64_0_1_2_3 := by decide
  shapeCasts_S1x8x512x64_S1x4096x64 := by decide
  slices_S1x16384x2x64_S1x16384x1x64_0_0_0_0 := by decide
  shapeCasts_S1x16384x1x64_S1x16384x64 := by decide
  sliceFits_S1x4096x16384_S1x4096x33 := by decide
  slices_S1x4096x33_S1x4096x32_0_0_0 := by decide
  slices_S1x4096x33_S1x4096x32_0_0_1 := by decide
  slices_S1x4096x33_S1x4096x1_0_0_0 := by decide
  bcast_S_S1x4096x1 := by decide
  dot_S512x512_S512x1536_S512x1536_1_0_0_1_n_n_wf := by decide
  dot_S1x4096x64_S1x16384x64_S1x4096x16384_2_2_1_1_0_0_wf := by decide

end Cert.Pre_no_tied_neighbours.Gen

end
-- ==== Proof.Select.lean ====
/- Choosing the greatest entries of a list by thresholds: the threshold after `k` rounds is the `k`-th entry of the sorted
   order, when the sorted order is strictly decreasing up to there. -/
module

public import Mathlib.Data.EReal.Basic
public import Mathlib.Algebra.BigOperators.Fin
public import Mathlib.Algebra.BigOperators.Group.Finset.Basic

@[expose] public section

noncomputable section

namespace Cert.Knn

variable {N : ℕ}

/-- The threshold after `k` rounds: first the greatest entry, then the greatest of the entries below the last threshold. -/
def thr (s : Fin N → EReal) : ℕ → EReal
  | 0 => Finset.univ.fold max ⊥ s
  | k + 1 => Finset.univ.fold max ⊥ fun j => if thr s k ≤ s j then ⊥ else s j

/-- A fold of `max` from the least element is the value of an entry that no entry exceeds. -/
theorem fold_max_eq {ι : Type} [Fintype ι] (f : ι → EReal) (i : ι) (h : ∀ j, f j ≤ f i) :
    Finset.univ.fold max ⊥ f = f i := by
  have e : Finset.univ.fold max ⊥ f = Finset.univ.sup f := rfl
  rw [e]
  exact le_antisymm (Finset.sup_le fun j _ => h j) (Finset.le_sup (Finset.mem_univ i))

variable (s : Fin N → EReal) (p : Fin N → Fin N) (hp : Function.Surjective p)
  (hs : ∀ a b, a ≤ b → s (p b) ≤ s (p a))

include hp hs in
/-- With the sorted order strictly decreasing over its first `R` places, the threshold after `k` rounds is the entry at
    place `k`. -/
theorem thr_eq (R : ℕ) (hst : ∀ a b : Fin N, a < b → a.val < R → s (p b) < s (p a)) (k : ℕ) (hk : k ≤ R) (hN : k < N) :
    thr s k = s (p ⟨k, hN⟩) := by
  induction k with
  | zero =>
    unfold thr
    refine fold_max_eq s (p ⟨0, hN⟩) fun j => ?_
    obtain ⟨a, rfl⟩ := hp j
    exact hs _ _ (Fin.mk_le_of_le_val (Nat.zero_le _))
  | succ k ih =>
    have ih := ih (by omega) (by omega)
    unfold thr
    rw [ih]
    have hlt : s (p ⟨k + 1, hN⟩) < s (p ⟨k, by omega⟩) := hst _ _ (by simp [Fin.lt_def]) (Nat.lt_of_succ_le hk)
    rw [fold_max_eq _ (p ⟨k + 1, hN⟩), if_neg (not_le.mpr hlt)]
    intro j
    rw [if_neg (not_le.mpr hlt)]
    obtain ⟨a, rfl⟩ := hp j
    split
    · exact bot_le
    · rename_i h
      refine hs _ _ ?_
      by_contra hc
      refine h (hs _ _ ?_)
      rw [not_le, Fin.lt_def] at hc
      rw [Fin.le_def]
      simp only at hc ⊢
      omega

include hp hs in
/-- With the first `R + 1` places strictly decreasing and above the rest, the entries not below the last threshold are
    those at the first `R + 1` places, so a sum over them is a sum over the places. -/
theorem sum_selected (R : ℕ) (hR : R + 1 ≤ N) (hinj : Function.Injective p)
    (hst : ∀ a b : Fin N, a < b → a.val < R + 1 → s (p b) < s (p a))
    (f : Fin N → EReal) :
    (∑ j, if thr s R ≤ s j then f j else 0) = ∑ r : Fin (R + 1), f (p (r.castLE hR)) := by
  have ht := thr_eq s p hp hs R (fun a b h h' => hst a b h (by omega)) R le_rfl (by omega)
  have hb : Function.Bijective p := ⟨hinj, hp⟩
  refine (hb.sum_comp fun j => if thr s R ≤ s j then f j else 0).symm.trans ?_
  have hsel : ∀ a : Fin N, thr s R ≤ s (p a) ↔ a.val < R + 1 := by
    intro a
    rw [ht]
    constructor
    · intro h
      by_contra hc
      exact absurd h (not_le.mpr (hst _ _ (by rw [Fin.lt_def]; simp only; omega) (by simp)))
    · intro h
      exact hs _ _ (by rw [Fin.le_def]; simp only; omega)
  simp only [hsel]
  rw [← Finset.sum_filter]
  symm
  refine Finset.sum_bij (fun r _ => r.castLE hR) ?_ ?_ ?_ ?_
  · intro r _; simp [r.isLt]
  · intro a _ b _ h; simpa using h
  · intro b hb
    simp only [Finset.mem_filter, Finset.mem_univ, true_and] at hb
    exact ⟨⟨b.val, hb⟩, Finset.mem_univ _, Fin.ext rfl⟩
  · intro r _; rfl

end Cert.Knn

end
-- ==== Proof.Attend.lean ====
/- One query's attention over its chosen memories and itself: the twice shifted, normalised weights applied to the values
   give the once shifted weighted sum divided by the sum of the weights. -/
module

public import proofs.«01_k».proof.Proof.Select
public import Idealize.ShloMosaic.PureOps.Ideal

@[expose] public section

noncomputable section

namespace Cert.Knn

open Idealize.ShloMosaic

/-- A nonnegative real factor goes through a finite sum of extended reals. -/
theorem mul_sum_coe {ι : Type} (S : Finset ι) (c : ℝ) (hc : 0 ≤ c) (f : ι → EReal) :
    (c : EReal) * ∑ i ∈ S, f i = ∑ i ∈ S, (c : EReal) * f i := by
  classical
  induction S using Finset.induction_on with
  | empty => simp
  | insert a S ha ih =>
    rw [Finset.sum_insert ha, Finset.sum_insert ha,
      EReal.left_distrib_of_nonneg_of_ne_top (by exact_mod_cast hc) (EReal.coe_ne_top c), ih]

/-- A finite sum of real values, read as an extended real. -/
theorem sum_coe {ι : Type} (S : Finset ι) (f : ι → ℝ) : ∑ i ∈ S, (f i : EReal) = ((∑ i ∈ S, f i : ℝ) : EReal) := by
  classical
  induction S using Finset.induction_on with
  | empty => simp
  | insert a S ha ih => rw [Finset.sum_insert ha, Finset.sum_insert ha, ih, EReal.coe_add]

/-- The maximum of finitely many real values is attained. -/
theorem exists_fold_max {n : ℕ} (l : Fin (n + 1) → ℝ) :
    ∃ i, (∀ j, l j ≤ l i) ∧ Finset.univ.fold max ⊥ (fun j => (l j : EReal)) = l i := by
  obtain ⟨i, hi⟩ := Finite.exists_max l
  exact ⟨i, hi, fold_max_eq (fun j => (l j : EReal)) i fun j => by exact_mod_cast hi j⟩

/-- What the reference does with one query's logits `l` and values `v`: subtract the maximum, subtract the maximum again,
    exponentiate, divide by the sum, and weigh the values. -/
def softmaxDot {n : ℕ} (l v : Fin n → EReal) : EReal :=
  let u := fun i => l i - Finset.univ.fold max ⊥ l
  let e := fun i => Ideal.exp (u i - max ⊥ (Finset.univ.fold max ⊥ u))
  ∑ i, Ideal.div (e i) (0 + ∑ k, e k) * v i

/-- With real logits, that is the weighted sum of the values divided by the sum of the weights, shifted once. -/
theorem softmaxDot_eq {n : ℕ} (l : Fin (n + 1) → ℝ) (v : Fin (n + 1) → EReal) :
    softmaxDot (fun i => (l i : EReal)) v
      = Ideal.div (∑ i, Ideal.exp ((l i : EReal) - Finset.univ.fold max ⊥ fun i => (l i : EReal)) * v i)
          (∑ i, Ideal.exp ((l i : EReal) - Finset.univ.fold max ⊥ fun i => (l i : EReal))) := by
  obtain ⟨i₀, hi₀, hM⟩ := exists_fold_max l
  unfold softmaxDot
  simp only [hM]
  have hu : ∀ i, ((l i : EReal) - (l i₀ : EReal)) = ((l i - l i₀ : ℝ) : EReal) := fun i => (EReal.coe_sub _ _).symm
  simp only [hu]
  have h2 : Finset.univ.fold max ⊥ (fun i => ((l i - l i₀ : ℝ) : EReal)) = 0 := by
    rw [fold_max_eq _ i₀ fun j => by have := hi₀ j; exact_mod_cast (by linarith : l j - l i₀ ≤ l i₀ - l i₀)]
    simp
  rw [h2]
  have h3 : max (⊥ : EReal) 0 = 0 := max_eq_right bot_le
  rw [h3]
  simp only [sub_zero, Ideal.exp_coe, zero_add]
  have hpos : 0 < ∑ k, Real.exp (l k - l i₀) := Finset.sum_pos (fun i _ => Real.exp_pos _) ⟨i₀, Finset.mem_univ _⟩
  rw [sum_coe]
  simp only [Ideal.div_coe hpos.ne']
  rw [mul_comm (∑ i, _) _, mul_sum_coe _ _ (by positivity)]
  refine Finset.sum_congr rfl fun i _ => ?_
  rw [mul_comm (((Real.exp (l i - l i₀) : ℝ)) : EReal) _, mul_assoc]

/-- The maximum of the logits is the greatest similarity's logit or the query's own. -/
theorem fold_max_snoc {n : ℕ} (l : Fin (n + 2) → EReal) (h : ∀ r : Fin (n + 1), l r.castSucc ≤ l (Fin.castSucc 0)) :
    Finset.univ.fold max ⊥ l = max (l (Fin.castSucc 0)) (l (Fin.last (n + 1))) := by
  have e : Finset.univ.fold max ⊥ l = Finset.univ.sup l := rfl
  rw [e]
  refine le_antisymm (Finset.sup_le fun j _ => ?_) (max_le (Finset.le_sup (Finset.mem_univ _)) (Finset.le_sup (Finset.mem_univ _)))
  refine Fin.lastCases ?_ (fun r => ?_) j
  · exact le_max_right _ _
  · exact (h r).trans (le_max_left _ _)

/-- What the kernel does with one query's similarities `s`, own logit `a`, memory values `mv` and own value `vs`. -/
def kernelRow {N : ℕ} (s : Fin N → EReal) (c : EReal) (a : EReal) (mv : Fin N → EReal) (vs : EReal) : EReal :=
  let M := max (thr s 0 * c) a
  let w := fun j => if thr s 31 ≤ s j then Ideal.exp (s j * c - M) else 0
  Ideal.div ((∑ j, w j * mv j) + Ideal.exp (a - M) * vs) ((∑ j, w j) + Ideal.exp (a - M))

/-- The two agree on a query whose 33 greatest similarities are strictly decreasing, the greatest not infinite. -/
theorem kernelRow_eq {N : ℕ} (hN : 33 ≤ N) (s : Fin N → EReal) (p : Fin N → Fin N) (hp : Function.Surjective p)
    (hinj : Function.Injective p) (hs : ∀ a b, a ≤ b → s (p b) ≤ s (p a))
    (hst : ∀ r : Fin N, ∀ h : r.val < 32, s (p ⟨r.val + 1, by omega⟩) < s (p r))
    (htop : s (p ⟨0, by omega⟩) < ⊤) (c : ℝ) (hc : 0 < c) (a : ℝ) (mv : Fin N → EReal) (vs : EReal)
    (l v : Fin 33 → EReal)
    (hl : ∀ r : Fin 32, l r.castSucc = s (p (r.castLE (by omega))) * c) (hl' : l (Fin.last 32) = a)
    (hv : ∀ r : Fin 32, v r.castSucc = mv (p (r.castLE (by omega)))) (hv' : v (Fin.last 32) = vs) :
    kernelRow s c a mv vs = softmaxDot l v := by
  have hst' : ∀ a b : Fin N, a < b → a.val < 32 → s (p b) < s (p a) := fun a b hab ha =>
    lt_of_le_of_lt (hs ⟨a.val + 1, by omega⟩ b (by rw [Fin.le_def]; exact hab)) (hst a ha)
  have hreal : ∀ r : Fin 32, ∃ x : ℝ, s (p (r.castLE (by omega))) = x := by
    intro r
    have h1 : s (p (r.castLE (by omega))) ≠ ⊤ :=
      (lt_of_le_of_lt (hs ⟨0, by omega⟩ _ (by rw [Fin.le_def]; exact Nat.zero_le _)) htop).ne
    have h2 : s (p (r.castLE (by omega))) ≠ ⊥ := (lt_of_le_of_lt bot_le (hst (r.castLE (by omega)) r.isLt)).ne'
    exact ⟨_, (EReal.coe_toReal h1 h2).symm⟩
  have hlr : ∀ i : Fin 33, ∃ x : ℝ, l i = x := by
    intro i
    refine Fin.lastCases ⟨a, hl'⟩ (fun r => ?_) i
    obtain ⟨x, hx⟩ := hreal r
    exact ⟨x * c, by rw [hl, hx, EReal.coe_mul]⟩
  choose lr hlr using hlr
  have hlf : l = fun i => (lr i : EReal) := funext hlr
  have hM : Finset.univ.fold max ⊥ l = max (thr s 0 * c) a := by
    rw [fold_max_snoc l, hl', hl, thr_eq s p hp hs 32 hst' 0 (by omega) (by omega)]
    · rfl
    · intro r
      rw [hl, hl]
      exact mul_le_mul_of_nonneg_right (hs _ _ (by rw [Fin.le_def]; exact Nat.zero_le _)) (by exact_mod_cast hc.le)
  have hsum := fun f => sum_selected s p hp hs 31 (by omega) hinj hst' f
  have e := softmaxDot_eq lr v
  rw [← hlf] at e
  have hlf' : ∀ i, (lr i : EReal) = l i := fun i => (hlr i).symm
  simp only [hlf', hM] at e
  rw [e, Fin.sum_univ_castSucc (fun i => Ideal.exp (l i - max (thr s 0 * ↑c) ↑a) * v i),
    Fin.sum_univ_castSucc (fun i => Ideal.exp (l i - max (thr s 0 * ↑c) ↑a))]
  simp only [hl, hl', hv, hv']
  unfold kernelRow
  simp only [ite_mul, zero_mul]
  rw [hsum, hsum]

end Cert.Knn

end
-- ==== Proof.Ops.lean ====
/- Rows and columns of matrices under the vector operations, read at one element. -/
module

public import Idealize.ShloMosaic.PureOps.Ideal.Laws
public import Idealize.ShloMosaic.Lib.ValueIdx
public import Idealize.ShloMosaic.Lib.MatmulPlain
public import Idealize.ShloMosaic.Lib.Pipeline.Value
public import Idealize.ShloMosaic.Lib.Pointwise.Tactic

@[expose] public section

noncomputable section

namespace Cert.Knn

open Idealize.ShloMosaic hiding ix0 ix1 ix2 ix3 ix4 ix5
open Idealize.ShloMosaic.ValueIdx

/-- The float32 word of one eighth reads as one eighth. -/
theorem ofBits_eighth : Ideal.ofBits .f32 0x3E000000#32 = (((1 / 8 : ℝ)) : EReal) := by
  simp [Ideal.ofBits, Ideal.ieee, -EReal.coe_mul]; norm_num

/-- The float32 word of one reads as one. -/
theorem ofBits_one : Ideal.ofBits .f32 0x3F800000#32 = 1 := IdealRules.sign_bit.ideal_onePat .f32

/-- The float32 word of minus infinity reads as the least extended real. -/
theorem ofBits_neg_inf : Ideal.ofBits .f32 0xFF800000#32 = ⊥ := by
  simp [Ideal.ofBits, Ideal.ieee]

/-- The float32 word of plus infinity reads as the greatest extended real. -/
theorem ofBits_inf : Ideal.ofBits .f32 0x7F800000#32 = ⊤ := by
  simp [Ideal.ofBits, Ideal.ieee]

/-- The float32 word next to `10⁻¹²` reads as a positive real. -/
theorem ofBits_eps : ∃ e : ℝ, 0 < e ∧ Ideal.ofBits .f32 0x2B8CBCCC#32 = (e : EReal) := by
  refine ⟨(2 ^ 23 + 834764 : ℝ) * 2 ^ (-63 : ℤ), by positivity, ?_⟩
  simp [Ideal.ofBits, Ideal.ieee, -EReal.coe_mul]; norm_num

/-- The float32 word of zero reads as zero. -/
theorem ofBits_zero : Ideal.ofBits .f32 0x00000000#32 = 0 := Ideal.ofBits_zero .f32

/-- The elementwise exponential, read at an element. -/
theorem exp_apply {s : Shape} (x : FVec Ideal s .f32) (i : s.Idx) : exp x i = Ideal.exp (x i) := rfl

/-- A scalar select on the comparison `y ≤ x` is the `if`. -/
theorem select_oge {φ : FTy} {α : Type} (x y : Ideal φ) (a b : α) :
    Scalar.select (FloatOps.cmpf .oge x y) a b = if (y : EReal) ≤ x then a else b := by
  show Scalar.select (Ideal.cmp .oge x y) a b = _
  by_cases h : (y : EReal) ≤ x <;> simp [Ideal.cmp, Scalar.select, h]

variable {M N : ℕ}

/-- A vector reshaped to one column, read at a row. -/
theorem col_apply {α : Type} (x : (⟨1, ![M]⟩ : Shape).Idx → α) (h : (⟨1, ![M]⟩ : Shape).ShapeCasts ⟨2, ![M, 1]⟩) (r : Fin M) :
    shapeCast ⟨2, ![M, 1]⟩ x h (ix2 r 0) = x (ix1 r) := by
  refine shapeCast_apply x h _ _ ?_
  simp [Shape.rowMajor_val_two, Shape.rowMajor_val_one]
  exact (Nat.add_zero _).symm

/-- A column broadcast over a matrix, read at an element. -/
theorem broadcast_col_apply {α : Type} (x : (⟨2, ![M, 1]⟩ : Shape).Idx → α)
    (h : (⟨2, ![M, 1]⟩ : Shape).Broadcasts ⟨2, ![M, N]⟩) (r : Fin M) (c : Fin N) :
    broadcastTo ⟨2, ![M, N]⟩ x h (ix2 r c) = x (ix2 r 0) := by
  refine broadcastTo_apply x h _ _ fun a => ?_
  match a with
  | ⟨0, _⟩ =>
    by_cases hM : M = 1
    · subst hM; simp
    · simp [hM]
  | ⟨1, _⟩ => simp

/-- A row broadcast over a matrix, read at an element. -/
theorem broadcast_row_apply {α : Type} (x : (⟨2, ![1, N]⟩ : Shape).Idx → α)
    (h : (⟨2, ![1, N]⟩ : Shape).Broadcasts ⟨2, ![M, N]⟩) (r : Fin M) (c : Fin N) :
    broadcastTo ⟨2, ![M, N]⟩ x h (ix2 r c) = x (ix2 0 c) := by
  refine broadcastTo_apply x h _ _ fun a => ?_
  match a with
  | ⟨0, _⟩ => simp
  | ⟨1, _⟩ =>
    by_cases hN : N = 1
    · subst hN; simp
    · simp [hN]

/-- The row maximum of a matrix, read at a row. -/
theorem row_max_apply (x : FVec Ideal ⟨2, ![M, N]⟩ .f32) (h : Shape.Reduces ⟨2, ![M, N]⟩ [1] ⟨1, ![M]⟩)
    (hφ : FKind.Formats .f32) (hacc : (0xFF800000#32 : BitVec 32) = FKind.maximumf.neutral .f32 hφ) (r : Fin M) :
    multiReduction .maximumf [1] ⟨1, ![M]⟩ x 0xFF800000#32 h hφ hacc (ix1 r)
      = Finset.univ.fold max ⊥ fun j : Fin N => x (ix2 r j) := by
  rw [Ideal.multiReduction_maximumf_single]
  have e : (x ∘ h.lift (ix1 r)) = fun j : Fin N => x (ix2 r j) := by
    funext j
    refine congrArg x (funext fun a => Fin.ext ?_)
    match a with
    | ⟨0, _⟩ => rfl
    | ⟨1, _⟩ => rfl
  rw [e]
  exact congrArg (fun b => Finset.univ.fold max b fun j : Fin N => x (ix2 r j)) ofBits_neg_inf

/-- The row sum of a matrix, read at a row. -/
theorem row_sum_apply (x : FVec Ideal ⟨2, ![M, N]⟩ .f32) (h : Shape.Reduces ⟨2, ![M, N]⟩ [1] ⟨1, ![M]⟩)
    (hφ : FKind.Formats .f32) (hacc : (0x00000000#32 : BitVec 32) = FKind.add.neutral .f32 hφ) (r : Fin M) :
    multiReduction .add [1] ⟨1, ![M]⟩ x 0x00000000#32 h hφ hacc (ix1 r) = ∑ j : Fin N, x (ix2 r j) := by
  rw [Ideal.multiReduction_add_single]
  refine Finset.sum_congr rfl fun j _ => congrArg x (funext fun a => Fin.ext ?_)
  match a with
  | ⟨0, _⟩ => rfl
  | ⟨1, _⟩ => rfl

end Cert.Knn

end
-- ==== Proof.AttnBlock.lean ====
/- What one block of the attention call stores: each row is one query's masked sum over all memories. -/
module

public import proofs.«01_k».proof.Proof.Gen.KernelIdeal.Frame
public import proofs.«01_k».proof.Proof.Attend
public import proofs.«01_k».proof.Proof.Ops

@[expose] public section

set_option maxRecDepth 16384

noncomputable section

namespace Cert.Knn

open Idealize.ShloMosaic hiding ix0 ix1 ix2 ix3 ix4 ix5
open Idealize.ShloMosaic.ValueIdx Cert.KernelIdeal Cert.KernelIdeal.Gen

/-- The first threshold column: every row's greatest similarity. -/
def thr0 (v : FVec Ideal S128x16384 .f32) : FVec Ideal S128x1 .f32 :=
  shapeCast S128x1 (multiReduction .maximumf [1] S128 v 0xFF800000#32 reduces_S128x16384_S128 (.inl rfl) rfl) shapeCasts_S128_S128x1

/-- One round: mask the similarities at or above the threshold and take the row maxima. -/
def thrStep (v : FVec Ideal S128x16384 .f32) (t : FVec Ideal S128x1 .f32) : FVec Ideal S128x1 .f32 :=
  thr0 (select (cmpf .oge v (broadcastTo S128x16384 t broadcasts_S128x1_S128x16384))
    (broadcast S128x16384 (Named.named κ "mask" 0xFF61B1E6#32 : Ideal .f32)) v)

/-- The threshold column after `k` rounds. -/
def thrCol (v : FVec Ideal S128x16384 .f32) : ℕ → FVec Ideal S128x1 .f32
  | 0 => thr0 v
  | k + 1 => thrStep v (thrCol v k)

/-- The masking constant is minus infinity. -/
theorem mask_eq : (Named.named κ "mask" 0xFF61B1E6#32 : Ideal .f32) = (⊥ : EReal) :=
  IdealRules.named_const.ideal_named_scalar _ _ _ _ rfl

/-- The first threshold column at a row. -/
theorem thr0_apply (v : FVec Ideal S128x16384 .f32) (r : Fin 128) :
    thr0 v (ix2 r 0) = Finset.univ.fold max ⊥ fun j : Fin 16384 => v (ix2 r j) := by
  unfold thr0
  rw [col_apply (M := 128)]
  exact row_max_apply (M := 128) (N := 16384) v _ _ _ r

/-- The threshold column after `k` rounds holds each row's threshold. -/
theorem thrCol_apply (v : FVec Ideal S128x16384 .f32) (r : Fin 128) (k : ℕ) :
    thrCol v k (ix2 r 0) = thr (fun j : Fin 16384 => v (ix2 r j)) k := by
  induction k with
  | zero => exact thr0_apply v r
  | succ k ih =>
    show thrStep v (thrCol v k) (ix2 r 0) = _
    unfold thrStep
    rw [thr0_apply]
    show _ = Finset.univ.fold max ⊥ _
    refine congrArg (fun f => Finset.univ.fold max ⊥ f) (funext fun j => ?_)
    show Scalar.select (Ideal.cmp .oge (v (ix2 r j)) (broadcastTo S128x16384 (thrCol v k) broadcasts_S128x1_S128x16384 (ix2 r j)))
      (Named.named κ "mask" 0xFF61B1E6#32 : Ideal .f32) (v (ix2 r j)) = _
    rw [broadcast_col_apply (M := 128) (N := 16384) (thrCol v k) broadcasts_S128x1_S128x16384 r j, ih, mask_eq]
    exact select_oge (φ := .f32) _ _ _ _

/-- The kernel's last threshold before the fifth part is the one after 27 rounds. -/
theorem thrCol_27 (x0 : Vec Ideal S128x64 .f32) (x1 : Vec Ideal S128x64 .f32) (x2 : Vec Ideal S128x64 .f32)
    (x3 : Vec Ideal S64x16384 .f32) (x4 : Vec Ideal S16384x64 .f32) :
    k1_pay21 (F := Ideal) x0 x1 x2 x3 x4 = thrCol (k1_pay19 (F := Ideal) x0 x1 x2 x3 x4) 27 := rfl

/-- The similarities of one block: the query rows times the memory keys. -/
theorem sims_apply (x0 : Vec Ideal S128x64 .f32) (x3 : Vec Ideal S64x16384 .f32) (r : Fin 128) (j : Fin 16384) :
    k1_pay5 (F := Ideal) x0 x3 (ix2 r j) = ∑ d : Fin 64, x0 (ix2 r d) * x3 (ix2 d j) := by
  have e : k1_pay5 (F := Ideal) x0 x3
      = FloatOps.matmul (F := Ideal) (DotDims.plain 128 64 16384) none
          (φ₁ := .bf16) (φ₂ := .bf16) (shapeCast S128x64 x0 shapeCasts_S128x64_S128x64)
          (shapeCast S64x16384 x3 shapeCasts_S64x16384_S64x16384) (constant S128x16384 .f32 0x00000000#32) := rfl
  rw [e, Ideal.matmul_plain_apply, shapeCast_self, shapeCast_self]
  show Ideal.ofBits .f32 0x00000000#32 + _ = _
  rw [ofBits_zero, zero_add]

/-- A query's own logit. -/
theorem self_apply (v1 v3 : FVec Ideal S128x64 .f32) (r : Fin 128) :
    k1_pay13 (F := Ideal) v1 v3 (ix2 r 0) = (∑ d : Fin 64, v1 (ix2 r d) * v3 (ix2 r d)) * ((1 / 8 : ℝ) : EReal) := by
  show shapeCast S128x1 (multiReduction .add [1] S128 (mulf v1 v3) 0x00000000#32 reduces_S128x64_S128 (.inl rfl) rfl)
    shapeCasts_S128_S128x1 (ix2 r 0) * Ideal.ofBits .f32 0x3E000000#32 = _
  rw [ofBits_eighth]
  exact congrArg (· * _) ((col_apply (M := 128) _ _ r).trans (row_sum_apply (M := 128) (N := 64) (mulf v1 v3) _ _ _ r))

/-- The shift of a query's logits: its greatest. -/
theorem shift_apply (v1 v3 : FVec Ideal S128x64 .f32) (v12 : FVec Ideal S128x1 .f32) (r : Fin 128) :
    k1_pay14 (F := Ideal) v1 v3 v12 (ix2 r 0)
      = max (v12 (ix2 r 0) * ((1 / 8 : ℝ) : EReal)) (k1_pay13 (F := Ideal) v1 v3 (ix2 r 0)) := by
  show max (v12 (ix2 r 0) * Ideal.ofBits .f32 0x3E000000#32) _ = _
  rw [ofBits_eighth]

/-- The weights of one block: the exponentials of the shifted logits at or above the last threshold, zero elsewhere. -/
theorem weight_apply (v1 v3 : FVec Ideal S128x64 .f32) (v10 : FVec Ideal S128x16384 .f32) (r : Fin 128) (j : Fin 16384) :
    k1_pay15 (F := Ideal) v1 v3 v10 (thrCol v10 0) (thrCol v10 27) (ix2 r j)
      = if thr (fun j : Fin 16384 => v10 (ix2 r j)) 31 ≤ v10 (ix2 r j) then
          Ideal.exp (v10 (ix2 r j) * ((1 / 8 : ℝ) : EReal)
            - k1_pay14 (F := Ideal) v1 v3 (thrCol v10 0) (ix2 r 0)) else 0 := by
  have e : k1_pay15 (F := Ideal) v1 v3 v10 (thrCol v10 0) (thrCol v10 27)
      = select (cmpf .oge v10 (broadcastTo S128x16384 (thrCol v10 31) broadcasts_S128x1_S128x16384))
          (exp (subf (mulf v10 (broadcast S128x16384 (Scalar.ofBits .f32 0x3E000000#32)))
            (broadcastTo S128x16384 (k1_pay14 (F := Ideal) v1 v3 (thrCol v10 0)) broadcasts_S128x1_S128x16384)))
          (broadcast S128x16384 (Scalar.ofBits .f32 0x00000000#32)) := rfl
  rw [e, select_apply, cmpf_apply, select_oge, exp_apply, subf_apply, mulf_apply, broadcast_apply, broadcast_apply,
    broadcast_col_apply (M := 128) (N := 16384) (thrCol v10 31) broadcasts_S128x1_S128x16384 r j,
    broadcast_col_apply (M := 128) (N := 16384) (k1_pay14 (F := Ideal) v1 v3 (thrCol v10 0)) broadcasts_S128x1_S128x16384 r j,
    thrCol_apply]
  have h8 : (Scalar.ofBits .f32 0x3E000000#32 : Ideal .f32) = ((1 / 8 : ℝ) : EReal) := ofBits_eighth
  have h0 : (Scalar.ofBits .f32 0x00000000#32 : Ideal .f32) = (0 : EReal) := ofBits_zero
  rw [h8, h0]

/-- The weighted sum of the memory values. -/
theorem num_apply (v1 v3 : FVec Ideal S128x64 .f32) (v10 : FVec Ideal S128x16384 .f32) (v12 v174 : FVec Ideal S128x1 .f32)
    (x4 : Vec Ideal S16384x64 .f32) (r : Fin 128) (d : Fin 64) :
    k1_pay16 (F := Ideal) v1 v3 v10 v12 v174 x4 (ix2 r d)
      = ∑ j : Fin 16384, k1_pay15 (F := Ideal) v1 v3 v10 v12 v174 (ix2 r j) * x4 (ix2 j d) := by
  have e : k1_pay16 (F := Ideal) v1 v3 v10 v12 v174 x4
      = FloatOps.matmul (F := Ideal) (DotDims.plain 128 16384 64) (some .fp32) (φ₁ := .f32) (φ₂ := .f32)
          (k1_pay15 (F := Ideal) v1 v3 v10 v12 v174)
          (shapeCast S16384x64 x4 shapeCasts_S16384x64_S16384x64) (constant S128x64 .f32 0x00000000#32) := rfl
  rw [e, Ideal.matmul_plain_apply, shapeCast_self]
  show Ideal.ofBits .f32 0x00000000#32 + _ = _
  rw [ofBits_zero, zero_add]

/-- The stored quotient. -/
theorem quotient_apply (v5 : FVec Ideal S128x64 .f32) (v203 v206 : FVec Ideal S128x1 .f32) (v215 : FVec Ideal S128x16384 .f32)
    (v218 : FVec Ideal S128x64 .f32) (r : Fin 128) (d : Fin 64) :
    k1_pay1 (F := Ideal) v5 v203 v206 v215 v218 (ix2 r d)
      = Ideal.div (v218 (ix2 r d) + Ideal.exp (v203 (ix2 r 0) - v206 (ix2 r 0)) * v5 (ix2 r d))
          ((∑ j : Fin 16384, v215 (ix2 r j)) + Ideal.exp (v203 (ix2 r 0) - v206 (ix2 r 0))) := by
  have e : k1_pay1 (F := Ideal) v5 v203 v206 v215 v218
      = extf .f32 (truncf .bf16 (divf (addf v218 (mulf (broadcastTo S128x64 (exp (subf v203 v206)) broadcasts_S128x1_S128x64) v5))
          (broadcastTo S128x64 (addf (shapeCast S128x1 (multiReduction .add [1] S128 v215 0x00000000#32
            reduces_S128x16384_S128 (.inl rfl) rfl) shapeCasts_S128_S128x1) (exp (subf v203 v206))) broadcasts_S128x1_S128x64)) bitsLt_bf16_f32) bitsLt_bf16_f32 := rfl
  rw [e, extf_apply, truncf_apply, divf_apply, addf_apply, mulf_apply]
  have h1 := broadcast_col_apply (M := 128) (N := 64) (exp (subf v203 v206)) broadcasts_S128x1_S128x64 r d
  have h2 := broadcast_col_apply (M := 128) (N := 64) (addf (shapeCast S128x1 (multiReduction .add [1] S128 v215 0x00000000#32
    reduces_S128x16384_S128 (.inl rfl) rfl) shapeCasts_S128_S128x1) (exp (subf v203 v206))) broadcasts_S128x1_S128x64 r d
  have h3 : shapeCast S128x1 (multiReduction .add [1] S128 v215 0x00000000#32 reduces_S128x16384_S128 (.inl rfl) rfl)
      shapeCasts_S128_S128x1 (ix2 r 0) = ∑ j : Fin 16384, v215 (ix2 r j) := (col_apply (M := 128) _ shapeCasts_S128_S128x1 r).trans
    (row_sum_apply (M := 128) (N := 16384) v215 reduces_S128x16384_S128 (.inl rfl) rfl r)
  rw [addf_apply] at h2
  rw [h1, h2, exp_apply, subf_apply, h3]

/-- The attention block's stored value is the kernel's row formula at each query of the block. -/
theorem out1_apply (x0 x1 x2 : Vec Ideal S128x64 .f32) (x3 : Vec Ideal S64x16384 .f32) (x4 : Vec Ideal S16384x64 .f32)
    (r : Fin 128) (d : Fin 64) :
    out1_5 (F := Ideal) x0 x1 x2 x3 x4 (ix2 r d)
      = kernelRow (fun j : Fin 16384 => ∑ d : Fin 64, x0 (ix2 r d) * x3 (ix2 d j)) ((1 / 8 : ℝ) : EReal)
          ((∑ d : Fin 64, x0 (ix2 r d) * x1 (ix2 r d)) * ((1 / 8 : ℝ) : EReal)) (fun j => x4 (ix2 j d)) (x2 (ix2 r d)) := by
  have hz0 : (![0, 0] : Fin S128x64.rank → Nat) = fun _ => 0 := funext fun a => by fin_cases a <;> rfl
  have hz1 : (![0, 0] : Fin S64x16384.rank → Nat) = fun _ => 0 := funext fun a => by fin_cases a <;> rfl
  have hz2 : (![0, 0] : Fin S16384x64.rank → Nat) = fun _ => 0 := funext fun a => by fin_cases a <;> rfl
  unfold out1_5
  rw [thrCol_27]
  unfold k1_pay17 k1_pay18 k1_pay19 k1_pay20
  rw [View.canon_unit_zero hz0]
  have l0 : ∀ X : Vec Ideal S128x64 .f32, View.ld X r1_0 = X := fun X => View.ld_unit_zero hz0 _ X
  have l1 : ∀ X : Vec Ideal S64x16384 .f32, View.ld X r1_1 = X := fun X => View.ld_unit_zero hz1 _ X
  have l2 : ∀ X : Vec Ideal S16384x64 .f32, View.ld X r1_2 = X := fun X => View.ld_unit_zero hz2 _ X
  simp only [l0, l1, l2]
  have e2 : k1_pay2 (F := Ideal) x0 = x0 := shapeCast_self _ _
  have e3 : k1_pay3 (F := Ideal) x1 = x1 := shapeCast_self _ _
  have e4 : k1_pay4 (F := Ideal) x2 = x2 := shapeCast_self _ _
  have e6 : k1_pay6 (F := Ideal) x0 x3 = thrCol (k1_pay5 (F := Ideal) x0 x3) 0 := rfl
  rw [e2, e3, e4, e6, quotient_apply, num_apply]
  simp only [weight_apply, shift_apply, self_apply, thrCol_apply, sims_apply]
  rfl

end Cert.Knn

end
-- ==== Proof.Spec.lean ====
/- The attention layer's mathematics over plain functions: linear map, the norm of a head's 64 columns, the scores. -/
module

public import proofs.«01_k».proof.Proof.Attend

@[expose] public section

noncomputable section

namespace Cert.Knn

open Idealize.ShloMosaic

/-- Column `d` of segment `s`: 24 segments of 64 columns, 8 each for the queries, the keys and the values. -/
def seg (s : Fin 24) (d : Fin 64) : Fin 1536 := ⟨s.val * 64 + d.val, by omega⟩

/-- A sum over the 1536 columns, segment by segment. -/
theorem sum_seg (f : Fin 1536 → EReal) : ∑ c, f c = ∑ s : Fin 24, ∑ d : Fin 64, f (seg s d) := by
  rw [← Fintype.sum_prod_type' (fun s d => f (seg s d))]
  refine (Fintype.sum_equiv (finProdFinEquiv (m := 24) (n := 64)) _ _ fun x => ?_).symm
  refine congrArg f (Fin.ext ?_)
  show x.1.val * 64 + x.2.val = x.2.val + 64 * x.1.val
  omega

/-- One row of the linear map. -/
def qkv (x : Fin 512 → EReal) (W : Fin 1536 → Fin 512 → EReal) (b : Fin 1536 → EReal) (c : Fin 1536) : EReal :=
  (∑ k : Fin 512, x k * W c k) + b c

/-- The norm of a segment, bounded below. -/
def segNorm (Q : Fin 1536 → EReal) (s : Fin 24) : EReal :=
  max (Ideal.sqrt (∑ d : Fin 64, Q (seg s d) * Q (seg s d))) (Ideal.ofBits .f32 0x2B8CBCCC#32)

/-- A segment divided by its norm. -/
def normed (Q : Fin 1536 → EReal) (s : Fin 24) (d : Fin 64) : EReal := Ideal.div (Q (seg s d)) (segNorm Q s)

/-- The query segment of head `h`. -/
def qs (h : Fin 8) : Fin 24 := ⟨h.val, by omega⟩
/-- The key segment of head `h`. -/
def ks (h : Fin 8) : Fin 24 := ⟨8 + h.val, by omega⟩
/-- The value segment of head `h`. -/
def vs (h : Fin 8) : Fin 24 := ⟨16 + h.val, by omega⟩

/-- A query's similarity to a memory key. -/
def sim (Q : Fin 1536 → EReal) (K : Fin 16384 → Fin 64 → EReal) (h : Fin 8) (j : Fin 16384) : EReal :=
  ∑ d : Fin 64, normed Q (qs h) d * K j d

/-- A query's own logit. -/
def own (Q : Fin 1536 → EReal) (h : Fin 8) : EReal :=
  (∑ d : Fin 64, normed Q (qs h) d * normed Q (ks h) d) * ((1 / 8 : ℝ) : EReal)

end Cert.Knn

end
-- ==== Proof.QkvBlock.lean ====
/- What the first call stores: the linear map's columns, the query and key segments divided by their norms. -/
module

public import proofs.«01_k».proof.Proof.Gen.KernelIdeal.Frame
public import proofs.«01_k».proof.Proof.Spec
public import proofs.«01_k».proof.Proof.Ops

@[expose] public section

set_option maxRecDepth 16384

noncomputable section

namespace Cert.Knn

open Idealize.ShloMosaic hiding ix0 ix1 ix2 ix3 ix4 ix5
open Idealize.ShloMosaic.ValueIdx Cert.KernelIdeal Cert.KernelIdeal.Gen

variable (v0 : Vec Ideal S512x512 .f32) (v3 : Vec Ideal S512x1536 .f32) (v7 : Vec Ideal S1x1536 .f32)
  (v12 : Vec Ideal S1536x24 .f32) (v23 : Vec Ideal S24x1536 .f32)

/-- The linear map of the first call. -/
def qkvArr : FVec Ideal S512x1536 .f32 :=
  addf (matmul dot_S512x512_S512x1536_S512x1536_1_0_0_1_n_n none
      (truncf .bf16 (shapeCast S512x512 v0 shapeCasts_S512x512_S512x512) bitsLt_bf16_f32)
      (truncf .bf16 (shapeCast S512x1536 v3 shapeCasts_S512x1536_S512x1536) bitsLt_bf16_f32) (constant S512x1536 .f32 0x00000000#32))
    (broadcastTo S512x1536 (shapeCast S1x1536 v7 shapeCasts_S1x1536_S1x1536) broadcasts_S1x1536_S512x1536)

/-- The linear map at an element. -/
theorem qkvArr_apply (n : Fin 512) (c : Fin 1536) :
    qkvArr v0 v3 v7 (ix2 n c) = (∑ k : Fin 512, v0 (ix2 n k) * v3 (ix2 k c)) + v7 (ix2 0 c) := by
  unfold qkvArr
  rw [addf_apply, shapeCast_self, shapeCast_self, shapeCast_self]
  have h1 : broadcastTo S512x1536 v7 broadcasts_S1x1536_S512x1536 (ix2 n c) = v7 (ix2 0 c) :=
    broadcast_row_apply (M := 512) (N := 1536) v7 _ n c
  have h2 := Ideal.matmul_plain_apply (M := 512) (K := 512) (N := 1536) none (φ₁ := .bf16) (φ₂ := .bf16)
    (truncf .bf16 v0 bitsLt_bf16_f32) (truncf .bf16 v3 bitsLt_bf16_f32) (constant S512x1536 .f32 0x00000000#32) n c
  rw [h1]
  refine congrArg (· + v7 (ix2 0 c)) (h2.trans ?_)
  rw [constant_apply, ofBits_zero, zero_add]
  rfl

/-- The sums of squares of the segments. -/
def sqArr : FVec Ideal S512x24 .f32 :=
  matmul dot_S512x1536_S1536x24_S512x24_1_0_0_1_n_n (some .fp32) (φ₁ := .f32) (φ₂ := .f32)
    (mulf (qkvArr v0 v3 v7) (qkvArr v0 v3 v7)) (shapeCast S1536x24 v12 shapeCasts_S1536x24_S1536x24) (constant S512x24 .f32 0x00000000#32)

/-- With the segments' indicator as the second factor, a sum over all columns is the sum over the segment. -/
theorem sqArr_apply (h12 : ∀ s d s', v12 (ix2 (seg s d) s') = if s = s' then 1 else 0) (n : Fin 512) (s : Fin 24) :
    sqArr v0 v3 v7 v12 (ix2 n s)
      = ∑ d : Fin 64, qkvArr v0 v3 v7 (ix2 n (seg s d)) * qkvArr v0 v3 v7 (ix2 n (seg s d)) := by
  have h2 := Ideal.matmul_plain_apply (M := 512) (K := 1536) (N := 24) (some .fp32) (φ₁ := .f32) (φ₂ := .f32)
    (mulf (qkvArr v0 v3 v7) (qkvArr v0 v3 v7)) v12 (constant S512x24 .f32 0x00000000#32) n s
  unfold sqArr
  rw [shapeCast_self]
  refine h2.trans ?_
  rw [constant_apply, ofBits_zero, zero_add, sum_seg]
  simp only [h12, mul_ite, mul_one, mul_zero]
  rw [Finset.sum_eq_single s (fun s' _ hs => by simp [hs]) (fun h => absurd (Finset.mem_univ s) h)]
  simp only [if_pos, mulf_apply]

/-- The divisors of the segments: the norms of the query and key segments, one for the value segments. -/
def divArr : FVec Ideal S512x24 .f32 :=
  select (cmpi .slt (iota .tc S512x24 32 [1] iota_S512x24_d1_w32) (broadcast S512x24 16#32))
    (maximumf (sqrt (sqArr v0 v3 v7 v12)) (broadcast S512x24 (Scalar.ofBits .f32 0x2B8CBCCC#32)))
    (broadcast S512x24 (Scalar.ofBits .f32 0x3F800000#32))

/-- Below segment 16 the comparison holds. -/
theorem seg_lt (s : Fin 24) : IntOp.cmpi .slt (BitVec.ofNat 32 s.val) 16#32 = if s.val < 16 then 1#1 else 0#1 := by
  revert s; decide +kernel

/-- The divisors at a segment. -/
theorem divArr_apply (h12 : ∀ s d s', v12 (ix2 (seg s d) s') = if s = s' then 1 else 0) (n : Fin 512) (s : Fin 24) :
    divArr v0 v3 v7 v12 (ix2 n s)
      = if s.val < 16 then segNorm (fun c => qkvArr v0 v3 v7 (ix2 n c)) s else 1 := by
  unfold divArr
  rw [select_apply, maximumf_apply, broadcast_apply, broadcast_apply]
  have hs : sqrt (sqArr v0 v3 v7 v12) (ix2 n s) = Ideal.sqrt (sqArr v0 v3 v7 v12 (ix2 n s)) := rfl
  have hc : cmpi .slt (iota .tc S512x24 32 [1] iota_S512x24_d1_w32) (broadcast S512x24 16#32) (ix2 n s)
      = IntOp.cmpi .slt (BitVec.ofNat 32 s.val) 16#32 := by
    show IntOp.cmpi .slt (BitVec.ofNat 32 (0 * 24 + s.val)) 16#32 = _
    rw [Nat.zero_mul, Nat.zero_add]
  have h1 : (Scalar.ofBits .f32 0x3F800000#32 : Ideal .f32) = (1 : EReal) := ofBits_one
  rw [hs, hc, seg_lt, sqArr_apply v0 v3 v7 v12 h12, h1]
  by_cases h : s.val < 16 <;> simp only [h, if_true, if_false, Scalar.select] <;> rfl

/-- The stored value is the quotient by the segment's divisor. -/
theorem pay0_apply (h12 : ∀ s d s', v12 (ix2 (seg s d) s') = if s = s' then 1 else 0)
    (h23 : ∀ s d s', v23 (ix2 s' (seg s d)) = if s = s' then 1 else 0) (n : Fin 512) (s : Fin 24) (d : Fin 64) :
    k0_pay1 (F := Ideal) v0 v3 v7 v12 v23 (ix2 n (seg s d))
      = if s.val < 16 then normed (fun c => qkvArr v0 v3 v7 (ix2 n c)) s d else qkvArr v0 v3 v7 (ix2 n (seg s d)) := by
  have e : k0_pay1 (F := Ideal) v0 v3 v7 v12 v23
      = divf (qkvArr v0 v3 v7) (matmul dot_S512x24_S24x1536_S512x1536_1_0_0_1_n_n (some .fp32) (φ₁ := .f32) (φ₂ := .f32)
          (divArr v0 v3 v7 v12) (shapeCast S24x1536 v23 shapeCasts_S24x1536_S24x1536) (constant S512x1536 .f32 0x00000000#32)) := rfl
  rw [e, divf_apply, shapeCast_self]
  have h2 : matmul dot_S512x24_S24x1536_S512x1536_1_0_0_1_n_n (some .fp32) (φ₁ := .f32) (φ₂ := .f32)
      (divArr v0 v3 v7 v12) v23
      (constant S512x1536 .f32 0x00000000#32) (ix2 n (seg s d)) = _ :=
    Ideal.matmul_plain_apply (M := 512) (K := 24) (N := 1536) (some .fp32) (φ₁ := .f32) (φ₂ := .f32)
      (divArr v0 v3 v7 v12) v23 (constant S512x1536 .f32 0x00000000#32) n (seg s d)
  rw [h2, constant_apply, ofBits_zero, zero_add]
  simp only [h23, mul_ite, mul_one, mul_zero]
  rw [Finset.sum_ite_eq Finset.univ s, if_pos (Finset.mem_univ s), divArr_apply v0 v3 v7 v12 h12]
  by_cases h : s.val < 16
  · rw [if_pos h, if_pos h]; rfl
  · rw [if_neg h, if_neg h]
    have := Ideal.div_coe (y := 1) one_ne_zero (qkvArr v0 v3 v7 (ix2 n (seg s d)))
    rw [EReal.coe_one] at this
    rw [this, div_one, EReal.coe_one, mul_one]

/-- The last call's stored value: the linear map. -/
theorem pay2_apply (w0 : Vec Ideal S512x512 .f32) (w2 : Vec Ideal S512x512 .f32) (w5 : Vec Ideal S1x512 .f32) (n c : Fin 512) :
    k2_pay1 (F := Ideal) w0 w2 w5 (ix2 n c) = (∑ k : Fin 512, w0 (ix2 n k) * w2 (ix2 k c)) + w5 (ix2 0 c) := by
  have e : k2_pay1 (F := Ideal) w0 w2 w5
      = addf (matmul (DotDims.plain 512 512 512) (some .fp32) (φ₁ := .f32) (φ₂ := .f32) (shapeCast S512x512 w0 shapeCasts_S512x512_S512x512)
          (shapeCast S512x512 w2 shapeCasts_S512x512_S512x512) (constant S512x512 .f32 0x00000000#32))
        (broadcastTo S512x512 (shapeCast S1x512 w5 shapeCasts_S1x512_S1x512) broadcasts_S1x512_S512x512) := rfl
  rw [e, addf_apply, shapeCast_self, shapeCast_self, shapeCast_self]
  have h1 : broadcastTo S512x512 w5 broadcasts_S1x512_S512x512 (ix2 n c) = w5 (ix2 0 c) :=
    broadcast_row_apply (M := 512) (N := 512) w5 _ n c
  have h2 := Ideal.matmul_plain_apply (M := 512) (K := 512) (N := 512) (some .fp32) (φ₁ := .f32) (φ₂ := .f32)
      w0 w2 (constant S512x512 .f32 0x00000000#32) n c
  rw [h1]
  refine congrArg (· + w5 (ix2 0 c)) (h2.trans ?_)
  rw [constant_apply, ofBits_zero, zero_add]

/-- The first call's output block is its payload of the input blocks. -/
theorem out0_eq (x0 : Vec Ideal S512x512 .f32) (x1 : Vec Ideal S512x1536 .f32) (x2 : Vec Ideal S1x1536 .f32)
    (x3 : Vec Ideal S1536x24 .f32) (x4 : Vec Ideal S24x1536 .f32) :
    out0_5 (F := Ideal) x0 x1 x2 x3 x4 = k0_pay1 (F := Ideal) x0 x1 x2 x3 x4 := by
  have h0 : (![0, 0] : Fin S512x512.rank → Nat) = fun _ => 0 := funext fun a => by fin_cases a <;> rfl
  have h1 : (![0, 0] : Fin S512x1536.rank → Nat) = fun _ => 0 := funext fun a => by fin_cases a <;> rfl
  have h2 : (![0, 0] : Fin S1x1536.rank → Nat) = fun _ => 0 := funext fun a => by fin_cases a <;> rfl
  have h3 : (![0, 0] : Fin S1536x24.rank → Nat) = fun _ => 0 := funext fun a => by fin_cases a <;> rfl
  have h4 : (![0, 0] : Fin S24x1536.rank → Nat) = fun _ => 0 := funext fun a => by fin_cases a <;> rfl
  unfold out0_5
  rw [View.canon_unit_zero h1, View.ld_unit_zero h0, View.ld_unit_zero h1, View.ld_unit_zero h2, View.ld_unit_zero h3,
    View.ld_unit_zero h4]

/-- The last call's output block is its payload of the input blocks. -/
theorem out2_eq (x0 x1 : Vec Ideal S512x512 .f32) (x2 : Vec Ideal S1x512 .f32) :
    out2_3 (F := Ideal) x0 x1 x2 = k2_pay1 (F := Ideal) x0 x1 x2 := by
  have h0 : (![0, 0] : Fin S512x512.rank → Nat) = fun _ => 0 := funext fun a => by fin_cases a <;> rfl
  have h2 : (![0, 0] : Fin S1x512.rank → Nat) = fun _ => 0 := funext fun a => by fin_cases a <;> rfl
  unfold out2_3
  rw [View.canon_unit_zero h0, View.ld_unit_zero h0, View.ld_unit_zero h0, View.ld_unit_zero h2]

end Cert.Knn

end
-- ==== Proof.Arrays.lean ====
/- What the three calls leave in their result arrays, from the contents each finds at its entry. -/
module

public import proofs.«01_k».proof.Proof.AttnBlock
public import proofs.«01_k».proof.Proof.QkvBlock

@[expose] public section

set_option maxRecDepth 16384

noncomputable section

namespace Cert.Knn

open Idealize.ShloMosaic hiding ix0 ix1 ix2 ix3 ix4 ix5
open Idealize.ShloMosaic.ValueIdx Cert.KernelIdeal Cert.KernelIdeal.Gen Idealize.ShloMosaic.TcCoe

variable (V : (c : Dev nD) → (b : Ref sig .tc) → Buf (Elt Ideal) ((c : Thread nD τ).loc b)) (c : Dev nD)

/-- Window 0 of call 0 holds block zero at every point. -/
theorem index0_0 : ∀ t : Fin cfg0.N, win0_0.index t (0 : Fin 2) = 0 ∧ win0_0.index t (1 : Fin 2) = 0 :=
  (by decide +kernel : ∀ t : Fin grid0.N, _)

/-- So its elements are the array's. -/
theorem emb0_0 (t : Fin cfg0.N) (j : S512x512.Idx) : ((cfg0.win 0).blk t).view.emb j = j := by
  obtain ⟨e0, e1⟩ := index0_0 t
  funext a; apply Fin.ext
  match a with
  | ⟨0, _⟩ => show win0_0.index t (0 : Fin 2) * 512 + 1 * (j 0).val = (j 0).val; omega
  | ⟨1, _⟩ => show win0_0.index t (1 : Fin 2) * 512 + 1 * (j 1).val = (j 1).val; omega

/-- And the block is the array as the call finds it. -/
theorem block0_0 (t : Fin cfg0.N) : iblk0 V c 0 t = V c main_v0 := by
  funext j; show V c main_v0 (((cfg0.win 0).blk t).view.emb j) = V c main_v0 j; rw [emb0_0]

/-- Window 1 of call 0 holds block zero at every point. -/
theorem index0_1 : ∀ t : Fin cfg0.N, win0_1.index t (0 : Fin 2) = 0 ∧ win0_1.index t (1 : Fin 2) = 0 :=
  (by decide +kernel : ∀ t : Fin grid0.N, _)

/-- So its elements are the array's. -/
theorem emb0_1 (t : Fin cfg0.N) (j : S512x1536.Idx) : ((cfg0.win 1).blk t).view.emb j = j := by
  obtain ⟨e0, e1⟩ := index0_1 t
  funext a; apply Fin.ext
  match a with
  | ⟨0, _⟩ => show win0_1.index t (0 : Fin 2) * 512 + 1 * (j 0).val = (j 0).val; omega
  | ⟨1, _⟩ => show win0_1.index t (1 : Fin 2) * 1536 + 1 * (j 1).val = (j 1).val; omega

/-- And the block is the array as the call finds it. -/
theorem block0_1 (t : Fin cfg0.N) : iblk0 V c 1 t = V c main_v10 := by
  funext j; show V c main_v10 (((cfg0.win 1).blk t).view.emb j) = V c main_v10 j; rw [emb0_1]

/-- Window 2 of call 0 holds block zero at every point. -/
theorem index0_2 : ∀ t : Fin cfg0.N, win0_2.index t (0 : Fin 2) = 0 ∧ win0_2.index t (1 : Fin 2) = 0 :=
  (by decide +kernel : ∀ t : Fin grid0.N, _)

/-- So its elements are the array's. -/
theorem emb0_2 (t : Fin cfg0.N) (j : S1x1536.Idx) : ((cfg0.win 2).blk t).view.emb j = j := by
  obtain ⟨e0, e1⟩ := index0_2 t
  funext a; apply Fin.ext
  match a with
  | ⟨0, _⟩ => show win0_2.index t (0 : Fin 2) * 1 + 1 * (j 0).val = (j 0).val; omega
  | ⟨1, _⟩ => show win0_2.index t (1 : Fin 2) * 1536 + 1 * (j 1).val = (j 1).val; omega

/-- And the block is the array as the call finds it. -/
theorem block0_2 (t : Fin cfg0.N) : iblk0 V c 2 t = V c main_v11 := by
  funext j; show V c main_v11 (((cfg0.win 2).blk t).view.emb j) = V c main_v11 j; rw [emb0_2]

/-- Window 3 of call 0 holds block zero at every point. -/
theorem index0_3 : ∀ t : Fin cfg0.N, win0_3.index t (0 : Fin 2) = 0 ∧ win0_3.index t (1 : Fin 2) = 0 :=
  (by decide +kernel : ∀ t : Fin grid0.N, _)

/-- So its elements are the array's. -/
theorem emb0_3 (t : Fin cfg0.N) (j : S1536x24.Idx) : ((cfg0.win 3).blk t).view.emb j = j := by
  obtain ⟨e0, e1⟩ := index0_3 t
  funext a; apply Fin.ext
  match a with
  | ⟨0, _⟩ => show win0_3.index t (0 : Fin 2) * 1536 + 1 * (j 0).val = (j 0).val; omega
  | ⟨1, _⟩ => show win0_3.index t (1 : Fin 2) * 24 + 1 * (j 1).val = (j 1).val; omega

/-- And the block is the array as the call finds it. -/
theorem block0_3 (t : Fin cfg0.N) : iblk0 V c 3 t = V c main_v9 := by
  funext j; show V c main_v9 (((cfg0.win 3).blk t).view.emb j) = V c main_v9 j; rw [emb0_3]

/-- Window 4 of call 0 holds block zero at every point. -/
theorem index0_4 : ∀ t : Fin cfg0.N, win0_4.index t (0 : Fin 2) = 0 ∧ win0_4.index t (1 : Fin 2) = 0 :=
  (by decide +kernel : ∀ t : Fin grid0.N, _)

/-- So its elements are the array's. -/
theorem emb0_4 (t : Fin cfg0.N) (j : S24x1536.Idx) : ((cfg0.win 4).blk t).view.emb j = j := by
  obtain ⟨e0, e1⟩ := index0_4 t
  funext a; apply Fin.ext
  match a with
  | ⟨0, _⟩ => show win0_4.index t (0 : Fin 2) * 24 + 1 * (j 0).val = (j 0).val; omega
  | ⟨1, _⟩ => show win0_4.index t (1 : Fin 2) * 1536 + 1 * (j 1).val = (j 1).val; omega

/-- And the block is the array as the call finds it. -/
theorem block0_4 (t : Fin cfg0.N) : iblk0 V c 4 t = V c main_v12 := by
  funext j; show V c main_v12 (((cfg0.win 4).blk t).view.emb j) = V c main_v12 j; rw [emb0_4]

/-- Window 5 of call 0 holds block zero at every point. -/
theorem index0_5 : ∀ t : Fin cfg0.N, win0_5.index t (0 : Fin 2) = 0 ∧ win0_5.index t (1 : Fin 2) = 0 :=
  (by decide +kernel : ∀ t : Fin grid0.N, _)

/-- So its elements are the array's. -/
theorem emb0_5 (t : Fin cfg0.N) (j : S512x1536.Idx) : ((cfg0.win 5).blk t).view.emb j = j := by
  obtain ⟨e0, e1⟩ := index0_5 t
  funext a; apply Fin.ext
  match a with
  | ⟨0, _⟩ => show win0_5.index t (0 : Fin 2) * 512 + 1 * (j 0).val = (j 0).val; omega
  | ⟨1, _⟩ => show win0_5.index t (1 : Fin 2) * 1536 + 1 * (j 1).val = (j 1).val; omega

/-- Window 0 of call 2 holds block zero at every point. -/
theorem index2_0 : ∀ t : Fin cfg2.N, win2_0.index t (0 : Fin 2) = 0 ∧ win2_0.index t (1 : Fin 2) = 0 :=
  (by decide +kernel : ∀ t : Fin grid2.N, _)

/-- So its elements are the array's. -/
theorem emb2_0 (t : Fin cfg2.N) (j : S512x512.Idx) : ((cfg2.win 0).blk t).view.emb j = j := by
  obtain ⟨e0, e1⟩ := index2_0 t
  funext a; apply Fin.ext
  match a with
  | ⟨0, _⟩ => show win2_0.index t (0 : Fin 2) * 512 + 1 * (j 0).val = (j 0).val; omega
  | ⟨1, _⟩ => show win2_0.index t (1 : Fin 2) * 512 + 1 * (j 1).val = (j 1).val; omega

/-- And the block is the array as the call finds it. -/
theorem block2_0 (t : Fin cfg2.N) : iblk2 V c 0 t = V c main_v33 := by
  funext j; show V c main_v33 (((cfg2.win 0).blk t).view.emb j) = V c main_v33 j; rw [emb2_0]

/-- Window 1 of call 2 holds block zero at every point. -/
theorem index2_1 : ∀ t : Fin cfg2.N, win2_1.index t (0 : Fin 2) = 0 ∧ win2_1.index t (1 : Fin 2) = 0 :=
  (by decide +kernel : ∀ t : Fin grid2.N, _)

/-- So its elements are the array's. -/
theorem emb2_1 (t : Fin cfg2.N) (j : S512x512.Idx) : ((cfg2.win 1).blk t).view.emb j = j := by
  obtain ⟨e0, e1⟩ := index2_1 t
  funext a; apply Fin.ext
  match a with
  | ⟨0, _⟩ => show win2_1.index t (0 : Fin 2) * 512 + 1 * (j 0).val = (j 0).val; omega
  | ⟨1, _⟩ => show win2_1.index t (1 : Fin 2) * 512 + 1 * (j 1).val = (j 1).val; omega

/-- And the block is the array as the call finds it. -/
theorem block2_1 (t : Fin cfg2.N) : iblk2 V c 1 t = V c main_v34 := by
  funext j; show V c main_v34 (((cfg2.win 1).blk t).view.emb j) = V c main_v34 j; rw [emb2_1]

/-- Window 2 of call 2 holds block zero at every point. -/
theorem index2_2 : ∀ t : Fin cfg2.N, win2_2.index t (0 : Fin 2) = 0 ∧ win2_2.index t (1 : Fin 2) = 0 :=
  (by decide +kernel : ∀ t : Fin grid2.N, _)

/-- So its elements are the array's. -/
theorem emb2_2 (t : Fin cfg2.N) (j : S1x512.Idx) : ((cfg2.win 2).blk t).view.emb j = j := by
  obtain ⟨e0, e1⟩ := index2_2 t
  funext a; apply Fin.ext
  match a with
  | ⟨0, _⟩ => show win2_2.index t (0 : Fin 2) * 1 + 1 * (j 0).val = (j 0).val; omega
  | ⟨1, _⟩ => show win2_2.index t (1 : Fin 2) * 512 + 1 * (j 1).val = (j 1).val; omega

/-- And the block is the array as the call finds it. -/
theorem block2_2 (t : Fin cfg2.N) : iblk2 V c 2 t = V c main_v35 := by
  funext j; show V c main_v35 (((cfg2.win 2).blk t).view.emb j) = V c main_v35 j; rw [emb2_2]

/-- Window 3 of call 2 holds block zero at every point. -/
theorem index2_3 : ∀ t : Fin cfg2.N, win2_3.index t (0 : Fin 2) = 0 ∧ win2_3.index t (1 : Fin 2) = 0 :=
  (by decide +kernel : ∀ t : Fin grid2.N, _)

/-- So its elements are the array's. -/
theorem emb2_3 (t : Fin cfg2.N) (j : S512x512.Idx) : ((cfg2.win 3).blk t).view.emb j = j := by
  obtain ⟨e0, e1⟩ := index2_3 t
  funext a; apply Fin.ext
  match a with
  | ⟨0, _⟩ => show win2_3.index t (0 : Fin 2) * 512 + 1 * (j 0).val = (j 0).val; omega
  | ⟨1, _⟩ => show win2_3.index t (1 : Fin 2) * 512 + 1 * (j 1).val = (j 1).val; omega

/-- Window 3 of call 1 holds block zero at every point. -/
theorem index1_3 : ∀ t : Fin cfg1.N, win1_3.index t (0 : Fin 2) = 0 ∧ win1_3.index t (1 : Fin 2) = 0 :=
  (by decide +kernel : ∀ t : Fin grid1.N, _)

/-- So its elements are the array's. -/
theorem emb1_3 (t : Fin cfg1.N) (j : S64x16384.Idx) : ((cfg1.win 3).blk t).view.emb j = j := by
  obtain ⟨e0, e1⟩ := index1_3 t
  funext a; apply Fin.ext
  match a with
  | ⟨0, _⟩ => show win1_3.index t (0 : Fin 2) * 64 + 1 * (j 0).val = (j 0).val; omega
  | ⟨1, _⟩ => show win1_3.index t (1 : Fin 2) * 16384 + 1 * (j 1).val = (j 1).val; omega

/-- And the block is the array as the call finds it. -/
theorem block1_3 (t : Fin cfg1.N) : iblk1 V c 3 t = V c main_v29 := by
  funext j; show V c main_v29 (((cfg1.win 3).blk t).view.emb j) = V c main_v29 j; rw [emb1_3]

/-- Window 4 of call 1 holds block zero at every point. -/
theorem index1_4 : ∀ t : Fin cfg1.N, win1_4.index t (0 : Fin 2) = 0 ∧ win1_4.index t (1 : Fin 2) = 0 :=
  (by decide +kernel : ∀ t : Fin grid1.N, _)

/-- So its elements are the array's. -/
theorem emb1_4 (t : Fin cfg1.N) (j : S16384x64.Idx) : ((cfg1.win 4).blk t).view.emb j = j := by
  obtain ⟨e0, e1⟩ := index1_4 t
  funext a; apply Fin.ext
  match a with
  | ⟨0, _⟩ => show win1_4.index t (0 : Fin 2) * 16384 + 1 * (j 0).val = (j 0).val; omega
  | ⟨1, _⟩ => show win1_4.index t (1 : Fin 2) * 64 + 1 * (j 1).val = (j 1).val; omega

/-- And the block is the array as the call finds it. -/
theorem block1_4 (t : Fin cfg1.N) : iblk1 V c 4 t = V c main_v31 := by
  funext j; show V c main_v31 (((cfg1.win 4).blk t).view.emb j) = V c main_v31 j; rw [emb1_4]

/-- The first call's result array. -/
theorem arr0 : (dat0 V c).arrAt 5 cfg0.N
    = k0_pay1 (F := Ideal) (V c main_v0) (V c main_v10) (V c main_v11) (V c main_v9) (V c main_v12) := by
  refine (dat0 V c).arrAt_eq_of_cover 5 (k0_pay1 (F := Ideal) (V c main_v0) (V c main_v10) (V c main_v11) (V c main_v9) (V c main_v12))
    (fun t _ => ?_) (fun i => ?_)
  · have e : (dat0 V c).flushed 5 t = (cfg0.win 5).cut (grid0.coords t) ((dat0 V c).after 5 t) := rfl
    rw [e, after0_5, out0_eq, block0_0, block0_1, block0_2, block0_3, block0_4]
    funext j
    show k0_pay1 (F := Ideal) _ _ _ _ _ j = k0_pay1 (F := Ideal) _ _ _ _ _ (((cfg0.win 5).blk t).view.emb j)
    rw [emb0_5]
  · refine ⟨(⟨0, by decide⟩ : Fin cfg0.N), flush0_5 _, ?_⟩
    have h := ((cfg0.win 5).blk (⟨0, by decide⟩ : Fin cfg0.N)).view.emb_mem_set i
    rwa [emb0_5] at h

/-- The last call's result array. -/
theorem arr2 : (dat2 V c).arrAt 3 cfg2.N = k2_pay1 (F := Ideal) (V c main_v33) (V c main_v34) (V c main_v35) := by
  refine (dat2 V c).arrAt_eq_of_cover 3 (k2_pay1 (F := Ideal) (V c main_v33) (V c main_v34) (V c main_v35))
    (fun t _ => ?_) (fun i => ?_)
  · have e : (dat2 V c).flushed 3 t = (cfg2.win 3).cut (grid2.coords t) ((dat2 V c).after 3 t) := rfl
    rw [e, after2_3, out2_eq, block2_0, block2_1, block2_2]
    funext j
    show k2_pay1 (F := Ideal) _ _ _ j = k2_pay1 (F := Ideal) _ _ _ (((cfg2.win 3).blk t).view.emb j)
    rw [emb2_3]
  · refine ⟨(⟨0, by decide⟩ : Fin cfg2.N), flush2_3 _, ?_⟩
    have h := ((cfg2.win 3).blk (⟨0, by decide⟩ : Fin cfg2.N)).view.emb_mem_set i
    rwa [emb2_3] at h

/-- Row `r` of the attention call's block `t`. -/
def blockRow (t : Fin cfg1.N) (r : Fin 128) : Fin 4096 := ⟨t.val * 128 + r.val, by
  have h1 : t.val < 32 := t.isLt
  omega⟩

/-- Window 0 of the attention call moves down the rows with the point. -/
theorem index1_0 : ∀ t : Fin cfg1.N, win1_0.index t (0 : Fin 2) = t.val ∧ win1_0.index t (1 : Fin 2) = 0 :=
  (by decide +kernel : ∀ t : Fin grid1.N, _)

/-- So an element of its block lies in the block's row of the array. -/
theorem emb1_0 (t : Fin cfg1.N) (r : Fin 128) (d : Fin 64) :
    ((cfg1.win 0).blk t).view.emb (ix2 r d : S128x64.Idx) = (ix2 (blockRow t r) d : S4096x64.Idx) := by
  obtain ⟨e0, e1⟩ := index1_0 t
  funext a; apply Fin.ext
  match a with
  | ⟨0, _⟩ => show win1_0.index t (0 : Fin 2) * 128 + 1 * r.val = t.val * 128 + r.val; omega
  | ⟨1, _⟩ => show win1_0.index t (1 : Fin 2) * 64 + 1 * d.val = d.val; omega

/-- And the block's element is the array's. -/
theorem block1_0 (t : Fin cfg1.N) (r : Fin 128) (d : Fin 64) :
    iblk1 V c 0 t (ix2 r d : S128x64.Idx) = V c main_v18 (ix2 (blockRow t r) d : S4096x64.Idx) := by
  show V c main_v18 (((cfg1.win 0).blk t).view.emb (ix2 r d : S128x64.Idx)) = _
  rw [emb1_0]

/-- Window 1 of the attention call moves down the rows with the point. -/
theorem index1_1 : ∀ t : Fin cfg1.N, win1_1.index t (0 : Fin 2) = t.val ∧ win1_1.index t (1 : Fin 2) = 0 :=
  (by decide +kernel : ∀ t : Fin grid1.N, _)

/-- So an element of its block lies in the block's row of the array. -/
theorem emb1_1 (t : Fin cfg1.N) (r : Fin 128) (d : Fin 64) :
    ((cfg1.win 1).blk t).view.emb (ix2 r d : S128x64.Idx) = (ix2 (blockRow t r) d : S4096x64.Idx) := by
  obtain ⟨e0, e1⟩ := index1_1 t
  funext a; apply Fin.ext
  match a with
  | ⟨0, _⟩ => show win1_1.index t (0 : Fin 2) * 128 + 1 * r.val = t.val * 128 + r.val; omega
  | ⟨1, _⟩ => show win1_1.index t (1 : Fin 2) * 64 + 1 * d.val = d.val; omega

/-- And the block's element is the array's. -/
theorem block1_1 (t : Fin cfg1.N) (r : Fin 128) (d : Fin 64) :
    iblk1 V c 1 t (ix2 r d : S128x64.Idx) = V c main_v22 (ix2 (blockRow t r) d : S4096x64.Idx) := by
  show V c main_v22 (((cfg1.win 1).blk t).view.emb (ix2 r d : S128x64.Idx)) = _
  rw [emb1_1]

/-- Window 2 of the attention call moves down the rows with the point. -/
theorem index1_2 : ∀ t : Fin cfg1.N, win1_2.index t (0 : Fin 2) = t.val ∧ win1_2.index t (1 : Fin 2) = 0 :=
  (by decide +kernel : ∀ t : Fin grid1.N, _)

/-- So an element of its block lies in the block's row of the array. -/
theorem emb1_2 (t : Fin cfg1.N) (r : Fin 128) (d : Fin 64) :
    ((cfg1.win 2).blk t).view.emb (ix2 r d : S128x64.Idx) = (ix2 (blockRow t r) d : S4096x64.Idx) := by
  obtain ⟨e0, e1⟩ := index1_2 t
  funext a; apply Fin.ext
  match a with
  | ⟨0, _⟩ => show win1_2.index t (0 : Fin 2) * 128 + 1 * r.val = t.val * 128 + r.val; omega
  | ⟨1, _⟩ => show win1_2.index t (1 : Fin 2) * 64 + 1 * d.val = d.val; omega

/-- And the block's element is the array's. -/
theorem block1_2 (t : Fin cfg1.N) (r : Fin 128) (d : Fin 64) :
    iblk1 V c 2 t (ix2 r d : S128x64.Idx) = V c main_v26 (ix2 (blockRow t r) d : S4096x64.Idx) := by
  show V c main_v26 (((cfg1.win 2).blk t).view.emb (ix2 r d : S128x64.Idx)) = _
  rw [emb1_2]

/-- Window 5 of the attention call moves down the rows with the point. -/
theorem index1_5 : ∀ t : Fin cfg1.N, win1_5.index t (0 : Fin 2) = t.val ∧ win1_5.index t (1 : Fin 2) = 0 :=
  (by decide +kernel : ∀ t : Fin grid1.N, _)

/-- So an element of its block lies in the block's row of the array. -/
theorem emb1_5 (t : Fin cfg1.N) (r : Fin 128) (d : Fin 64) :
    ((cfg1.win 5).blk t).view.emb (ix2 r d : S128x64.Idx) = (ix2 (blockRow t r) d : S4096x64.Idx) := by
  obtain ⟨e0, e1⟩ := index1_5 t
  funext a; apply Fin.ext
  match a with
  | ⟨0, _⟩ => show win1_5.index t (0 : Fin 2) * 128 + 1 * r.val = t.val * 128 + r.val; omega
  | ⟨1, _⟩ => show win1_5.index t (1 : Fin 2) * 64 + 1 * d.val = d.val; omega

/-- What the attention call computes, row by row, from its five operand arrays. -/
def attnArr (q k v : Vec Ideal S4096x64 .f32) (kt : Vec Ideal S64x16384 .f32) (mv : Vec Ideal S16384x64 .f32) :
    Vec Ideal S4096x64 .f32 := fun i =>
  kernelRow (fun j : Fin 16384 => ∑ d : Fin 64, q (ix2 (i 0) d) * kt (ix2 d j)) ((1 / 8 : ℝ) : EReal)
    ((∑ d : Fin 64, q (ix2 (i 0) d) * k (ix2 (i 0) d)) * ((1 / 8 : ℝ) : EReal)) (fun j => mv (ix2 j (i 1))) (v (ix2 (i 0) (i 1)))

/-- A block whose elements are an array's at the block's rows is that array's block. -/
theorem cut1_5 (t : Fin cfg1.N) (X : Vec Ideal S128x64 .f32) (Y : Vec Ideal S4096x64 .f32)
    (h : ∀ r d, X (ix2 r d) = Y (ix2 (blockRow t r) d)) :
    (cfg1.win 5).cut (grid1.coords t) X = ((cfg1.win 5).blk t).view.read (Elt Ideal) Y := by
  funext j
  obtain ⟨r, d, rfl⟩ : ∃ r d, j = (ix2 r d : S128x64.Idx) := ⟨j 0, j 1, ValueIdx.eq_ix2 j⟩
  show X (ix2 r d) = Y (((cfg1.win 5).blk t).view.emb (ix2 r d : S128x64.Idx))
  rw [emb1_5, h]

/-- The attention call's result array. -/
theorem arr1 : (dat1 V c).arrAt 5 cfg1.N
    = attnArr (V c main_v18) (V c main_v22) (V c main_v26) (V c main_v29) (V c main_v31) := by
  refine (dat1 V c).arrAt_eq_of_cover 5 (attnArr (V c main_v18) (V c main_v22) (V c main_v26) (V c main_v29) (V c main_v31))
    (fun t _ => ?_) (fun i => ?_)
  · have e : (dat1 V c).flushed 5 t = (cfg1.win 5).cut (grid1.coords t) ((dat1 V c).after 5 t) := rfl
    rw [e, after1_5, block1_3, block1_4]
    refine cut1_5 t _ _ fun r d => ?_
    rw [out1_apply]
    simp only [block1_0, block1_1, block1_2]
    rfl
  · obtain ⟨a, d, rfl⟩ : ∃ a d, i = (ix2 a d : S4096x64.Idx) := ⟨i 0, i 1, ValueIdx.eq_ix2 i⟩
    have ht : a.val / 128 < 32 := by have := a.isLt; omega
    refine ⟨(⟨a.val / 128, ht⟩ : Fin cfg1.N), flush1_5 _, ?_⟩
    have h := ((cfg1.win 5).blk (⟨a.val / 128, ht⟩ : Fin cfg1.N)).view.emb_mem_set
      (ix2 (⟨a.val % 128, Nat.mod_lt _ (by omega)⟩ : Fin 128) d : S128x64.Idx)
    rw [emb1_5] at h
    have e : blockRow (⟨a.val / 128, ht⟩ : Fin cfg1.N) ⟨a.val % 128, Nat.mod_lt _ (by omega)⟩ = a := Fin.ext (by
      show a.val / 128 * 128 + a.val % 128 = a.val
      omega)
    rwa [e] at h

end Cert.Knn

end
-- ==== Proof.HostIn.lean ====
/- What the host operations before the first call leave: the call's five operands. -/
module

public import proofs.«01_k».proof.Proof.Gen.KernelIdeal.Frame
public import proofs.«01_k».proof.Proof.Spec
public import proofs.«01_k».proof.Proof.Ops

@[expose] public section

set_option maxRecDepth 16384

noncomputable section

namespace Cert.Knn

open Idealize.ShloMosaic hiding ix0 ix1 ix2 ix3 ix4 ix5
open Idealize.ShloMosaic.ValueIdx Cert.KernelIdeal Cert.KernelIdeal.Gen Idealize.ShloMosaic.TcCoe

variable (m : (ℓ : Loc nD τ sig) → Buf (Elt Ideal) ℓ) (ρ : Dev nD → PrngReg) (c : Dev nD)

/-- The first operand: the input, flattened to rows. -/
theorem W3_v0 : W3 m ρ c (Proc.devRef .tc main_v0)
    = shapeCast S512x512 (m ((c : Thread nD τ).loc main_arg0)) shapeCasts_S1x4x8x16x512_S512x512 := by
  rw [W3_of m ρ c main_v0 (by decide), W2_of m ρ c main_v0 (by decide)]
  show StableHlo.after hostOps0 _ _ = _
  after_results_simp
  rfl

/-- The second operand: the linear map's matrix, transposed. -/
theorem W3_v10 : W3 m ρ c (Proc.devRef .tc main_v10)
    = transpose S512x1536 [1, 0] (m ((c : Thread nD τ).loc main_arg2)) transposes_S1536x512_S512x1536_1_0 := by
  show StableHlo.after hostOps0_2 _ _ = _
  after_results_simp

/-- The third operand: the bias, as a row. -/
theorem W3_v11 : W3 m ρ c (Proc.devRef .tc main_v11)
    = shapeCast S1x1536 (m ((c : Thread nD τ).loc main_arg3)) shapeCasts_S1536_S1x1536 := by
  show StableHlo.after hostOps0_2 _ _ = _
  after_results_simp
  rfl

/-- The scalar word, spread over the columns. -/
def word (b : BitVec 32) : IVec S1536 32 := broadcastInDim S1536 ![] bcast_S_S1536 (constantI S_ 32 b)

/-- The columns' segment numbers: the column number divided by 64, rounded down. -/
def segWords : IVec S1536 32 :=
  select (andi (cmpi .ne (signi (iotaInDim S1536 32 0)) (broadcastInDim S1536 ![] bcast_S_S1536 (signi (constantI S_ 32 64#32))))
      (cmpi .ne (Host.remsi (iotaInDim S1536 32 0) (word 64#32)) (word 0#32)))
    (subi (Host.divsi (iotaInDim S1536 32 0) (word 64#32)) (word 1#32)) (Host.divsi (iotaInDim S1536 32 0) (word 64#32))

/-- Before the first call the segment numbers are in place. -/
theorem W2_v2 : W2 m ρ c (Proc.devRef .tc main_v2) = segWords := by
  show StableHlo.after hostOps0_1 _ _ = _
  after_results_simp
  rfl

/-- The segment number of a column is its segment. -/
theorem segWords_apply (s : Fin 24) (d : Fin 64) : segWords (ix1 (seg s d)) = BitVec.ofNat 32 s.val := by
  have h : ∀ s : Fin 24, ∀ d : Fin 64, segWords (ix1 (seg s d)) = BitVec.ofNat 32 s.val := by decide +kernel
  exact h s d

/-- Each column against its segment's number, as a matrix of zeros and ones. -/
def hot : FVec Ideal S1536x24 .f32 :=
  uitofp .f32 (cmpi .eq (broadcastInDim S1536x24 ![0, 1] bcast_S1536x1_S1536x24_0_1 (broadcastInDim S1536x1 ![0] bcast_S1536_S1536x1_0 segWords))
    (broadcastInDim S1536x24 ![0, 1] bcast_S1x24_S1536x24_0_1 (broadcastInDim S1x24 ![1] bcast_S24_S1x24_1 (iotaInDim S24 32 0))))

/-- It is one exactly at the column's own segment. -/
theorem hot_apply (s : Fin 24) (d : Fin 64) (s' : Fin 24) : hot (ix2 (seg s d) s') = if s = s' then 1 else 0 := by
  have h1 : broadcastInDim S1536x24 ![0, 1] bcast_S1536x1_S1536x24_0_1 (broadcastInDim S1536x1 ![0] bcast_S1536_S1536x1_0 segWords)
      (ix2 (seg s d) s') = segWords (ix1 (seg s d)) := by
    rw [broadcastInDim_apply _ bcast_S1536x1_S1536x24_0_1 _ _ (ix2 (seg s d) (0 : Fin 1)) (fun a => by match a with | ⟨0, _⟩ => rfl | ⟨1, _⟩ => rfl)]
    exact broadcastInDim_apply _ bcast_S1536_S1536x1_0 _ _ (ix1 (seg s d)) (fun a => by match a with | ⟨0, _⟩ => rfl)
  have h2 : broadcastInDim S1536x24 ![0, 1] bcast_S1x24_S1536x24_0_1 (broadcastInDim S1x24 ![1] bcast_S24_S1x24_1 (iotaInDim S24 32 0))
      (ix2 (seg s d) s') = BitVec.ofNat 32 s'.val := by
    rw [broadcastInDim_apply _ bcast_S1x24_S1536x24_0_1 _ _ (ix2 (0 : Fin 1) s') (fun a => by match a with | ⟨0, _⟩ => rfl | ⟨1, _⟩ => rfl)]
    exact broadcastInDim_apply _ bcast_S24_S1x24_1 _ _ (ix1 s') (fun a => by match a with | ⟨0, _⟩ => rfl)
  have h3 : ∀ s s' : Fin 24, (IntOp.cmpi .eq (BitVec.ofNat 32 s.val) (BitVec.ofNat 32 s'.val)).toNat = if s = s' then 1 else 0 := by
    decide +kernel
  show ((((IntOp.cmpi .eq (broadcastInDim S1536x24 ![0, 1] bcast_S1536x1_S1536x24_0_1 (broadcastInDim S1536x1 ![0] bcast_S1536_S1536x1_0 segWords)
      (ix2 (seg s d) s')) (broadcastInDim S1536x24 ![0, 1] bcast_S1x24_S1536x24_0_1 (broadcastInDim S1x24 ![1] bcast_S24_S1x24_1 (iotaInDim S24 32 0))
      (ix2 (seg s d) s'))).toNat : ℝ)) : EReal) = _
  rw [h1, h2, segWords_apply, h3]
  by_cases h : s = s' <;> simp [h]

/-- The fourth operand is that matrix. -/
theorem W3_v9 : W3 m ρ c (Proc.devRef .tc main_v9) = hot := by
  have h := W2_v2 m ρ c
  show StableHlo.after hostOps0_2 (W2 m ρ c) _ = _
  generalize W2 m ρ c = V at h ⊢
  after_results_simp
  rw [h]
  rfl

/-- The fifth operand is its transpose. -/
theorem W3_v12 : W3 m ρ c (Proc.devRef .tc main_v12) = transpose S24x1536 [1, 0] hot transposes_S1536x24_S24x1536_1_0 := by
  have h := W2_v2 m ρ c
  show StableHlo.after hostOps0_2 (W2 m ρ c) _ = _
  generalize W2 m ρ c = V at h ⊢
  after_results_simp
  rw [h]
  rfl

end Cert.Knn

end
-- ==== Proof.HostMid.lean ====
/- What the host operations between and after the calls do: the queries, keys and values by head, the memories, the final
   reshapes. -/
module

public import proofs.«01_k».proof.Proof.Gen.KernelIdeal.Frame
public import proofs.«01_k».proof.Proof.Spec
public import proofs.«01_k».proof.Proof.Ops

@[expose] public section

set_option maxRecDepth 16384

noncomputable section

namespace Cert.Knn

open Idealize.ShloMosaic hiding ix0 ix1 ix2 ix3 ix4 ix5
open Idealize.ShloMosaic.ValueIdx Cert.KernelIdeal Cert.KernelIdeal.Gen Idealize.ShloMosaic.TcCoe

/-- Row `n` of head `h` in the arrays by head. -/
def hrow (h : Fin 8) (n : Fin 512) : Fin 4096 := ⟨h.val * 512 + n.val, by omega⟩

/-- Segment `8 k + h`: head `h` of the `k`-th third. -/
def third (k : Fin 3) (h : Fin 8) : Fin 24 := ⟨k.val * 8 + h.val, by omega⟩

/-- The `k`-th third of the first call's result by head: rows are head and position, columns the head's. -/
def byHead (k : Fin 3) (hs : S512x3x8x64.Slices ![0, k.val, 0, 0] S512x1x8x64) (X : Vec Ideal S512x1536 .f32) : Vec Ideal S4096x64 .f32 :=
  shapeCast S4096x64 (transpose S8x512x64 [1, 0, 2] (shapeCast S512x8x64 (extractStridedSlice S512x1x8x64 ![0, k.val, 0, 0]
    (shapeCast S512x3x8x64 X shapeCasts_S512x1536_S512x3x8x64) hs) shapeCasts_S512x1x8x64_S512x8x64)
    transposes_S512x8x64_S8x512x64_1_0_2) shapeCasts_S8x512x64_S4096x64

/-- It holds the third's columns of the head at the head's rows. -/
theorem byHead_apply (k : Fin 3) (hs : S512x3x8x64.Slices ![0, k.val, 0, 0] S512x1x8x64) (X : Vec Ideal S512x1536 .f32)
    (h : Fin 8) (n : Fin 512) (d : Fin 64) : byHead k hs X (ix2 (hrow h n) d) = X (ix2 n (seg (third k h) d)) := by
  unfold byHead
  rw [shapeCast_apply _ shapeCasts_S8x512x64_S4096x64 _ (ix3 h n d) (by
    simp only [Shape.rowMajor_val_two, Shape.rowMajor_val_three]; rfl)]
  rw [transpose_apply [1, 0, 2] _ transposes_S512x8x64_S8x512x64_1_0_2 _ (ix3 n h d) (fun b => by
    match b with | ⟨0, _⟩ => rfl | ⟨1, _⟩ => rfl | ⟨2, _⟩ => rfl)]
  rw [shapeCast_apply _ shapeCasts_S512x1x8x64_S512x8x64 _ (ix4 n (0 : Fin 1) h d) (by
    simp only [Shape.rowMajor_val_four, Shape.rowMajor_val_three]
    show ((n.val * 1 + 0) * 8 + h.val) * 64 + d.val = (n.val * 8 + h.val) * 64 + d.val
    omega)]
  rw [extractStridedSlice_apply _ _ hs _ (ix4 n k h d) (fun a => by
    match a with
    | ⟨0, _⟩ => exact (Nat.zero_add _).symm
    | ⟨1, _⟩ => exact (Nat.add_zero _).symm
    | ⟨2, _⟩ => exact (Nat.zero_add _).symm
    | ⟨3, _⟩ => exact (Nat.zero_add _).symm)]
  exact shapeCast_apply _ shapeCasts_S512x1536_S512x3x8x64 _ (ix2 n (seg (third k h) d)) (by
    simp only [Shape.rowMajor_val_four, Shape.rowMajor_val_two]
    show n.val * 1536 + ((k.val * 8 + h.val) * 64 + d.val) = ((n.val * 3 + k.val) * 8 + h.val) * 64 + d.val
    omega)

/-- The `k`-th of the memories' two rows, as a matrix. -/
def memRows (k : Fin 2) (hs : S1x16384x2x64.Slices ![0, 0, k.val, 0] S1x16384x1x64) (Y : Vec Ideal S1x16384x2x64 .f32) :
    Vec Ideal S16384x64 .f32 :=
  shapeCast S16384x64 (extractStridedSlice S1x16384x1x64 ![0, 0, k.val, 0] Y hs) shapeCasts_S1x16384x1x64_S16384x64

/-- It holds them. -/
theorem memRows_apply (k : Fin 2) (hs : S1x16384x2x64.Slices ![0, 0, k.val, 0] S1x16384x1x64) (Y : Vec Ideal S1x16384x2x64 .f32)
    (j : Fin 16384) (d : Fin 64) : memRows k hs Y (ix2 j d) = Y (ix4 (0 : Fin 1) j k d) := by
  unfold memRows
  rw [shapeCast_apply _ shapeCasts_S1x16384x1x64_S16384x64 _ (ix4 (0 : Fin 1) j (0 : Fin 1) d) (by
    simp only [Shape.rowMajor_val_four, Shape.rowMajor_val_two]
    show ((0 * 16384 + j.val) * 1 + 0) * 64 + d.val = j.val * 64 + d.val
    omega)]
  exact extractStridedSlice_apply _ _ hs _ (ix4 (0 : Fin 1) j k d) (fun a => by
    match a with
    | ⟨0, _⟩ => exact (Nat.zero_add _).symm
    | ⟨1, _⟩ => exact (Nat.zero_add _).symm
    | ⟨2, _⟩ => exact (Nat.add_zero _).symm
    | ⟨3, _⟩ => exact (Nat.zero_add _).symm)

/-- The attention call's result flattened to rows of 512: row `r`, column `q` is row `8 r + q / 64`, column `q % 64`. -/
theorem flat_apply (Z : Vec Ideal S4096x64 .f32) (r : Fin 512) (q : Fin 512) :
    shapeCast S512x512 Z shapeCasts_S4096x64_S512x512 (ix2 r q)
      = Z (ix2 (⟨r.val * 8 + q.val / 64, by omega⟩ : Fin 4096) (⟨q.val % 64, by omega⟩ : Fin 64)) :=
  shapeCast_apply _ shapeCasts_S4096x64_S512x512 _ _ (by
    simp only [Shape.rowMajor_val_two]
    show (r.val * 8 + q.val / 64) * 64 + q.val % 64 = r.val * 512 + q.val
    omega)

variable (m : (ℓ : Loc nD τ sig) → Buf (Elt Ideal) ℓ) (ρ : Dev nD → PrngReg) (c : Dev nD)

/-- The attention call's queries. -/
theorem W5_v18 : W5 m ρ c (Proc.devRef .tc main_v18)
    = byHead 0 slices_S512x3x8x64_S512x1x8x64_0_0_0_0 (W4 m ρ c (Proc.devRef .tc main_v13)) := by
  show StableHlo.after hostOps1 (W4 m ρ c) _ = _
  generalize W4 m ρ c = V
  after_results_simp
  rfl

/-- The attention call's own keys. -/
theorem W5_v22 : W5 m ρ c (Proc.devRef .tc main_v22)
    = byHead 1 slices_S512x3x8x64_S512x1x8x64_0_1_0_0 (W4 m ρ c (Proc.devRef .tc main_v13)) := by
  show StableHlo.after hostOps1 (W4 m ρ c) _ = _
  generalize W4 m ρ c = V
  after_results_simp
  rfl

/-- The attention call's own values. -/
theorem W5_v26 : W5 m ρ c (Proc.devRef .tc main_v26)
    = byHead 2 slices_S512x3x8x64_S512x1x8x64_0_2_0_0 (W4 m ρ c (Proc.devRef .tc main_v13)) := by
  show StableHlo.after hostOps1 (W4 m ρ c) _ = _
  generalize W4 m ρ c = V
  after_results_simp
  rfl

/-- The memories' keys, transposed. -/
theorem W5_v29 : W5 m ρ c (Proc.devRef .tc main_v29)
    = transpose S64x16384 [1, 0] (memRows 0 slices_S1x16384x2x64_S1x16384x1x64_0_0_0_0 (m ((c : Thread nD τ).loc main_arg1)))
        transposes_S16384x64_S64x16384_1_0 := by
  have h := W4_args m ρ c main_arg1 (by decide)
  show StableHlo.after hostOps1 (W4 m ρ c) _ = _
  generalize W4 m ρ c = V at h ⊢
  after_results_simp
  rw [h]
  rfl

/-- The memories' values. -/
theorem W5_v31 : W5 m ρ c (Proc.devRef .tc main_v31)
    = memRows 1 slices_S1x16384x2x64_S1x16384x1x64_0_0_1_0 (m ((c : Thread nD τ).loc main_arg1)) := by
  have h := W4_args m ρ c main_arg1 (by decide)
  show StableHlo.after hostOps1 (W4 m ρ c) _ = _
  generalize W4 m ρ c = V at h ⊢
  after_results_simp
  rw [h]
  rfl

/-- The last call's first operand. -/
theorem W7_v33 : W7 m ρ c (Proc.devRef .tc main_v33)
    = shapeCast S512x512 (W6 m ρ c (Proc.devRef .tc main_v32)) shapeCasts_S4096x64_S512x512 := by
  show StableHlo.after hostOps2 (W6 m ρ c) _ = _
  generalize W6 m ρ c = V
  after_results_simp
  rfl

/-- The last call's matrix, transposed. -/
theorem W7_v34 : W7 m ρ c (Proc.devRef .tc main_v34)
    = transpose S512x512 [1, 0] (m ((c : Thread nD τ).loc main_arg4)) transposes_S512x512_S512x512_1_0 := by
  have h := W6_args m ρ c main_arg4 (by decide)
  show StableHlo.after hostOps2 (W6 m ρ c) _ = _
  generalize W6 m ρ c = V at h ⊢
  after_results_simp
  rw [h]

/-- The last call's bias, as a row. -/
theorem W7_v35 : W7 m ρ c (Proc.devRef .tc main_v35)
    = shapeCast S1x512 (m ((c : Thread nD τ).loc main_arg5)) shapeCasts_S512_S1x512 := by
  have h := W6_args m ρ c main_arg5 (by decide)
  show StableHlo.after hostOps2 (W6 m ρ c) _ = _
  generalize W6 m ρ c = V at h ⊢
  after_results_simp
  rw [h]
  rfl

/-- The result. -/
theorem W9_v37 : W9 m ρ c (Proc.devRef .tc main_v37)
    = shapeCast S1x4x8x16x512 (W8 m ρ c (Proc.devRef .tc main_v36)) shapeCasts_S512x512_S1x4x8x16x512 := by
  show StableHlo.after hostOps3 (W8 m ρ c) _ = _
  generalize W8 m ρ c = V
  after_results_simp
  rfl

end Cert.Knn

end
-- ==== Proof.KernelValue.lean ====
/- What the kernel computes: each head's attention at each position from the arguments, flattened and projected. -/
module

public import proofs.«01_k».proof.Proof.Arrays
public import proofs.«01_k».proof.Proof.HostIn
public import proofs.«01_k».proof.Proof.HostMid

@[expose] public section

set_option maxRecDepth 16384

noncomputable section

namespace Cert.Knn

open Idealize.ShloMosaic hiding ix0 ix1 ix2 ix3 ix4 ix5
open Idealize.ShloMosaic.ValueIdx Cert.KernelIdeal Cert.KernelIdeal.Gen Idealize.ShloMosaic.TcCoe

/-- Row `n` of the queries, keys and values, from the arguments. -/
def rowQ (x : Vec Ideal S1x4x8x16x512 .f32) (W : Vec Ideal S1536x512 .f32) (b : Vec Ideal S1536 .f32) (n : Fin 512) :
    Fin 1536 → EReal :=
  qkv (fun k => shapeCast S512x512 x shapeCasts_S1x4x8x16x512_S512x512 (ix2 n k)) (fun c k => W (ix2 c k)) (fun c => b (ix1 c))

/-- The kernel's attention of head `h` at position `n`, column `d`. -/
def kernelAtt (x : Vec Ideal S1x4x8x16x512 .f32) (Y : Vec Ideal S1x16384x2x64 .f32) (W : Vec Ideal S1536x512 .f32)
    (b : Vec Ideal S1536 .f32) (h : Fin 8) (n : Fin 512) (d : Fin 64) : EReal :=
  kernelRow (sim (rowQ x W b n) (fun j d => Y (ix4 (0 : Fin 1) j (0 : Fin 2) d)) h) ((1 / 8 : ℝ) : EReal) (own (rowQ x W b n) h)
    (fun j => Y (ix4 (0 : Fin 1) j (1 : Fin 2) d)) (rowQ x W b n (seg (vs h) d))

/-- The head of a flat row. -/
def headOf (r q : Fin 512) : Fin 8 := ⟨(r.val * 8 + q.val / 64) / 512, by omega⟩
/-- The position of a flat row. -/
def posOf (r q : Fin 512) : Fin 512 := ⟨(r.val * 8 + q.val / 64) % 512, by omega⟩
/-- The column of a flat row. -/
def colOf (q : Fin 512) : Fin 64 := ⟨q.val % 64, by omega⟩

/-- The attention of all heads flattened to rows of 512 and projected, with its bias. -/
def finish (att : Fin 8 → Fin 512 → Fin 64 → EReal) (P : Vec Ideal S512x512 .f32) (pb : Vec Ideal S512 .f32) :
    Vec Ideal S512x512 .f32 := fun i =>
  (∑ q : Fin 512, att (headOf (i 0) q) (posOf (i 0) q) (colOf q) * P (ix2 (i 1) q)) + pb (ix1 (i 1))

variable (m : (ℓ : Loc nD τ sig) → Buf (Elt Ideal) ℓ) (ρ : Dev nD → PrngReg) (c : Dev nD)

/-- The first call's linear map is the row of the queries, keys and values. -/
theorem lin_eq (n : Fin 512) (e : Fin 1536) :
    qkvArr (shapeCast S512x512 (m ((c : Thread nD τ).loc main_arg0)) shapeCasts_S1x4x8x16x512_S512x512)
      (transpose S512x1536 [1, 0] (m ((c : Thread nD τ).loc main_arg2)) transposes_S1536x512_S512x1536_1_0)
      (shapeCast S1x1536 (m ((c : Thread nD τ).loc main_arg3)) shapeCasts_S1536_S1x1536) (ix2 n e)
    = rowQ (m ((c : Thread nD τ).loc main_arg0)) (m ((c : Thread nD τ).loc main_arg2)) (m ((c : Thread nD τ).loc main_arg3)) n e := by
  rw [qkvArr_apply]
  have hb : shapeCast S1x1536 (m ((c : Thread nD τ).loc main_arg3)) shapeCasts_S1536_S1x1536 (ix2 0 e)
      = m ((c : Thread nD τ).loc main_arg3) (ix1 e) :=
    shapeCast_apply _ shapeCasts_S1536_S1x1536 _ (ix1 e) (by
      simp only [Shape.rowMajor_val_one, Shape.rowMajor_val_two]
      show e.val = 0 * 1536 + e.val
      omega)
  have hw : ∀ k : Fin 512, transpose S512x1536 [1, 0] (m ((c : Thread nD τ).loc main_arg2)) transposes_S1536x512_S512x1536_1_0 (ix2 k e)
      = m ((c : Thread nD τ).loc main_arg2) (ix2 e k) := fun k =>
    transpose_apply [1, 0] _ transposes_S1536x512_S512x1536_1_0 _ (ix2 e k) (fun b => by match b with | ⟨0, _⟩ => rfl | ⟨1, _⟩ => rfl)
  simp only [hw]
  rw [hb]
  rfl

/-- The first call's result: queries and keys normalised, values as they are. -/
theorem W4_v13 (n : Fin 512) (s : Fin 24) (d : Fin 64) :
    W4 m ρ c (Proc.devRef .tc main_v13) (ix2 n (seg s d))
      = if s.val < 16 then normed (rowQ (m ((c : Thread nD τ).loc main_arg0)) (m ((c : Thread nD τ).loc main_arg2))
            (m ((c : Thread nD τ).loc main_arg3)) n) s d
        else rowQ (m ((c : Thread nD τ).loc main_arg0)) (m ((c : Thread nD τ).loc main_arg2)) (m ((c : Thread nD τ).loc main_arg3)) n (seg s d) := by
  have h : W4 m ρ c (Proc.devRef .tc main_v13) = k0_pay1 (F := Ideal) (W3 m ρ c (Proc.devRef .tc main_v0))
      (W3 m ρ c (Proc.devRef .tc main_v10)) (W3 m ρ c (Proc.devRef .tc main_v11)) (W3 m ρ c (Proc.devRef .tc main_v9))
      (W3 m ρ c (Proc.devRef .tc main_v12)) := (W4_arr m ρ c 5).trans (arr0 (V3 m ρ) c)
  rw [h, W3_v0, W3_v10, W3_v11, W3_v9, W3_v12]
  have ht : ∀ s d s', transpose S24x1536 [1, 0] hot transposes_S1536x24_S24x1536_1_0 (ix2 s' (seg s d)) = if s = s' then 1 else 0 :=
    fun s d s' => (transpose_apply [1, 0] _ transposes_S1536x24_S24x1536_1_0 _ (ix2 (seg s d) s')
      (fun b => by match b with | ⟨0, _⟩ => rfl | ⟨1, _⟩ => rfl)).trans (hot_apply s d s')
  refine (pay0_apply _ _ _ _ _ hot_apply ht n s d).trans ?_
  exact congrArg (fun Q : Fin 1536 → EReal => if s.val < 16 then normed Q s d else Q (seg s d)) (funext (lin_eq m c n))

/-- The attention call's result at a head's row. -/
theorem W6_v32 (h : Fin 8) (n : Fin 512) (d : Fin 64) :
    W6 m ρ c (Proc.devRef .tc main_v32) (ix2 (hrow h n) d)
      = kernelAtt (m ((c : Thread nD τ).loc main_arg0)) (m ((c : Thread nD τ).loc main_arg1)) (m ((c : Thread nD τ).loc main_arg2))
          (m ((c : Thread nD τ).loc main_arg3)) h n d := by
  have e : W6 m ρ c (Proc.devRef .tc main_v32) = attnArr (W5 m ρ c (Proc.devRef .tc main_v18)) (W5 m ρ c (Proc.devRef .tc main_v22))
      (W5 m ρ c (Proc.devRef .tc main_v26)) (W5 m ρ c (Proc.devRef .tc main_v29)) (W5 m ρ c (Proc.devRef .tc main_v31)) :=
    (W6_arr m ρ c 5).trans (arr1 (V5 m ρ) c)
  have hq : ∀ d : Fin 64, W5 m ρ c (Proc.devRef .tc main_v18) (ix2 (hrow h n) d)
      = normed (rowQ (m ((c : Thread nD τ).loc main_arg0)) (m ((c : Thread nD τ).loc main_arg2)) (m ((c : Thread nD τ).loc main_arg3)) n) (qs h) d := fun d => by
    have hs : third 0 h = qs h := Fin.ext (by show 0 * 8 + h.val = h.val; omega)
    rw [W5_v18]
    refine (byHead_apply 0 _ _ h n d).trans ?_
    rw [hs, W4_v13]
    exact if_pos (show h.val < 16 by omega)
  have hk : ∀ d : Fin 64, W5 m ρ c (Proc.devRef .tc main_v22) (ix2 (hrow h n) d)
      = normed (rowQ (m ((c : Thread nD τ).loc main_arg0)) (m ((c : Thread nD τ).loc main_arg2)) (m ((c : Thread nD τ).loc main_arg3)) n) (ks h) d := fun d => by
    have hs : third 1 h = ks h := Fin.ext (by show 1 * 8 + h.val = 8 + h.val; omega)
    rw [W5_v22]
    refine (byHead_apply 1 _ _ h n d).trans ?_
    rw [hs, W4_v13]
    exact if_pos (show 8 + h.val < 16 by omega)
  have hv : W5 m ρ c (Proc.devRef .tc main_v26) (ix2 (hrow h n) d)
      = rowQ (m ((c : Thread nD τ).loc main_arg0)) (m ((c : Thread nD τ).loc main_arg2)) (m ((c : Thread nD τ).loc main_arg3)) n (seg (vs h) d) := by
    have hs : third 2 h = vs h := Fin.ext (by show 2 * 8 + h.val = 16 + h.val; omega)
    rw [W5_v26]
    refine (byHead_apply 2 _ _ h n d).trans ?_
    rw [hs, W4_v13]
    exact if_neg (show ¬ 16 + h.val < 16 by omega)
  have hK : ∀ (d : Fin 64) (j : Fin 16384), W5 m ρ c (Proc.devRef .tc main_v29) (ix2 d j)
      = m ((c : Thread nD τ).loc main_arg1) (ix4 (0 : Fin 1) j (0 : Fin 2) d) := fun d j => by
    rw [W5_v29]
    refine (transpose_apply [1, 0] _ transposes_S16384x64_S64x16384_1_0 _ (ix2 j d) (fun b => by
      match b with | ⟨0, _⟩ => rfl | ⟨1, _⟩ => rfl)).trans ?_
    exact memRows_apply 0 _ _ j d
  have hV : ∀ (d : Fin 64) (j : Fin 16384), W5 m ρ c (Proc.devRef .tc main_v31) (ix2 j d)
      = m ((c : Thread nD τ).loc main_arg1) (ix4 (0 : Fin 1) j (1 : Fin 2) d) := fun d j => by
    rw [W5_v31]
    exact memRows_apply 1 _ _ j d
  rw [e]
  have e2 : ∀ (q k v : Vec Ideal S4096x64 .f32) (kt : Vec Ideal S64x16384 .f32) (mv : Vec Ideal S16384x64 .f32),
      attnArr q k v kt mv (ix2 (hrow h n) d) = kernelRow (fun j : Fin 16384 => ∑ d : Fin 64, q (ix2 (hrow h n) d) * kt (ix2 d j))
        ((1 / 8 : ℝ) : EReal) ((∑ d : Fin 64, q (ix2 (hrow h n) d) * k (ix2 (hrow h n) d)) * ((1 / 8 : ℝ) : EReal))
        (fun j => mv (ix2 j d)) (v (ix2 (hrow h n) d)) := fun _ _ _ _ _ => rfl
  rw [e2]
  simp only [hq, hk, hv, hK, hV]
  rfl

/-- The kernel's result. -/
theorem W9_eq : W9 m ρ c (Proc.devRef .tc main_v37)
    = shapeCast S1x4x8x16x512 (finish (kernelAtt (m ((c : Thread nD τ).loc main_arg0)) (m ((c : Thread nD τ).loc main_arg1))
        (m ((c : Thread nD τ).loc main_arg2)) (m ((c : Thread nD τ).loc main_arg3))) (m ((c : Thread nD τ).loc main_arg4))
        (m ((c : Thread nD τ).loc main_arg5))) shapeCasts_S512x512_S1x4x8x16x512 := by
  have e : W8 m ρ c (Proc.devRef .tc main_v36) = k2_pay1 (F := Ideal) (W7 m ρ c (Proc.devRef .tc main_v33))
      (W7 m ρ c (Proc.devRef .tc main_v34)) (W7 m ρ c (Proc.devRef .tc main_v35)) := (W8_arr m ρ c 3).trans (arr2 (V7 m ρ) c)
  rw [W9_v37, e, W7_v33, W7_v34, W7_v35]
  refine congrArg (fun Z => shapeCast S1x4x8x16x512 Z shapeCasts_S512x512_S1x4x8x16x512) (funext fun i => ?_)
  obtain ⟨r, e, rfl⟩ : ∃ r e : Fin 512, i = ix2 r e := ⟨i 0, i 1, ValueIdx.eq_ix2 i⟩
  refine (pay2_apply _ _ _ r e).trans ?_
  have hb : shapeCast S1x512 (m ((c : Thread nD τ).loc main_arg5)) shapeCasts_S512_S1x512 (ix2 0 e)
      = m ((c : Thread nD τ).loc main_arg5) (ix1 e) :=
    shapeCast_apply _ shapeCasts_S512_S1x512 _ (ix1 e) (by
      simp only [Shape.rowMajor_val_one, Shape.rowMajor_val_two]
      show e.val = 0 * 512 + e.val
      omega)
  have hw : ∀ k : Fin 512, transpose S512x512 [1, 0] (m ((c : Thread nD τ).loc main_arg4)) transposes_S512x512_S512x512_1_0 (ix2 k e)
      = m ((c : Thread nD τ).loc main_arg4) (ix2 e k) := fun k =>
    transpose_apply [1, 0] _ transposes_S512x512_S512x512_1_0 _ (ix2 e k) (fun b => by match b with | ⟨0, _⟩ => rfl | ⟨1, _⟩ => rfl)
  have hf : ∀ q : Fin 512, shapeCast S512x512 (W6 m ρ c (Proc.devRef .tc main_v32)) shapeCasts_S4096x64_S512x512 (ix2 r q)
      = kernelAtt (m ((c : Thread nD τ).loc main_arg0)) (m ((c : Thread nD τ).loc main_arg1)) (m ((c : Thread nD τ).loc main_arg2))
          (m ((c : Thread nD τ).loc main_arg3)) (headOf r q) (posOf r q) (colOf q) := fun q => by
    rw [flat_apply]
    have hr : (⟨r.val * 8 + q.val / 64, by omega⟩ : Fin 4096) = hrow (headOf r q) (posOf r q) := Fin.ext (by
      show r.val * 8 + q.val / 64 = (r.val * 8 + q.val / 64) / 512 * 512 + (r.val * 8 + q.val / 64) % 512
      omega)
    rw [hr]
    exact W6_v32 m ρ c _ _ _
  simp only [hw, hf]
  rw [hb]
  rfl

end Cert.Knn

end
-- ==== Proof.RefQkv.lean ====
/- What the reference computes up to the similarities: rows of queries, keys and values, the two normalisations, and each
   query's similarity to each memory. -/
module

public import proofs.«01_k».proof.Proof.Gen.ReferenceIdeal.Read
public import proofs.«01_k».proof.Proof.KernelValue

@[expose] public section

set_option maxRecDepth 16384

noncomputable section

namespace Cert.Knn

open Idealize.ShloMosaic hiding ix0 ix1 ix2 ix3 ix4 ix5
open Idealize.ShloMosaic.ValueIdx Cert.ReferenceIdeal Cert.ReferenceIdeal.Gen Cert.ReferenceIdeal.Read Idealize.ShloMosaic.TcCoe

variable (x0 : (⟨S1x4x8x16x512, .f32⟩ : BufTy).Contents (Elt Ideal)) (x1 : (⟨S1x16384x2x64, .f32⟩ : BufTy).Contents (Elt Ideal))
  (x2 : (⟨S1536x512, .f32⟩ : BufTy).Contents (Elt Ideal)) (x3 : (⟨S1536, .f32⟩ : BufTy).Contents (Elt Ideal))

/-- The linear map. -/
theorem ref_v5 (n : Fin 512) (e : Fin 1536) : val_main_v5 (F := Ideal) x0 x2 x3 (ix2 n e) = rowQ x0 x2 x3 n e := by
  have hl : ∀ k : Fin 512, lidx_main_v2 (ix2 n e) k = ix2 n k := fun k => funext fun a => by
    match a with | ⟨0, _⟩ => rfl | ⟨1, _⟩ => rfl
  have hr : ∀ k : Fin 512, idx_main_v1 (ridx_main_v2 (ix2 n e) k) = ix2 e k := fun k => funext fun a => by
    match a with | ⟨0, _⟩ => rfl | ⟨1, _⟩ => rfl
  have hb : idx_main_v3 (idx_main_v4 (ix2 n e)) = ix1 e := funext fun a => by match a with | ⟨0, _⟩ => rfl
  rw [val_main_v5_apply, val_main_v2_apply, val_main_v4_apply, val_main_v3_apply, hb]
  simp only [hl, val_main_v1_apply, hr]
  rfl

/-- The linear map by third, head and position. -/
theorem ref_v7 (k : Fin 3) (h : Fin 8) (n : Fin 512) (d : Fin 64) :
    val_main_v7 (F := Ideal) x0 x2 x3 (ix5 k (0 : Fin 1) h n d) = rowQ x0 x2 x3 n (seg (third k h) d) := by
  have e : idx_main_v6 (idx_main_v7 (ix5 k (0 : Fin 1) h n d)) = ix2 n (seg (third k h) d) := funext fun a => Fin.ext (by
    match a with
    | ⟨0, _⟩ =>
      show ((((0 * 512 + n.val) * 3 + k.val) * 8 + h.val) * 64 + d.val) / 1536 = n.val
      omega
    | ⟨1, _⟩ =>
      show ((((0 * 512 + n.val) * 3 + k.val) * 8 + h.val) * 64 + d.val) % 1536 = (k.val * 8 + h.val) * 64 + d.val
      omega)
  rw [val_main_v7_apply, val_main_v6_apply, e, ref_v5]

/-- The flat position of head, row and column splits back. -/
theorem split3 (h : Fin 8) (n : Fin 512) (d : Fin 64) :
    (((0 * 8 + h.val) * 512 + n.val) * 64 + d.val) / 32768 % 8 = h.val
    ∧ (((0 * 8 + h.val) * 512 + n.val) * 64 + d.val) / 64 % 512 = n.val
    ∧ (((0 * 8 + h.val) * 512 + n.val) * 64 + d.val) % 64 = d.val := by omega

/-- The queries. -/
theorem ref_v9 (h : Fin 8) (n : Fin 512) (d : Fin 64) :
    val_main_v9 (F := Ideal) x0 x2 x3 (ix4 (0 : Fin 1) h n d) = rowQ x0 x2 x3 n (seg (qs h) d) := by
  have e : idx_main_v8 (idx_main_v9 (ix4 (0 : Fin 1) h n d)) = ix5 (0 : Fin 3) (0 : Fin 1) h n d := funext fun a => Fin.ext (by
    match a with
    | ⟨0, _⟩ => rfl
    | ⟨1, _⟩ => rfl
    | ⟨2, _⟩ => exact (split3 h n d).1
    | ⟨3, _⟩ => exact (split3 h n d).2.1
    | ⟨4, _⟩ => exact (split3 h n d).2.2)
  have hs : third 0 h = qs h := Fin.ext (by show 0 * 8 + h.val = h.val; omega)
  rw [val_main_v9_apply, val_main_v8_apply, e, ref_v7, hs]

/-- The keys. -/
theorem ref_v11 (h : Fin 8) (n : Fin 512) (d : Fin 64) :
    val_main_v11 (F := Ideal) x0 x2 x3 (ix4 (0 : Fin 1) h n d) = rowQ x0 x2 x3 n (seg (ks h) d) := by
  have e : idx_main_v10 (idx_main_v11 (ix4 (0 : Fin 1) h n d)) = ix5 (1 : Fin 3) (0 : Fin 1) h n d := funext fun a => Fin.ext (by
    match a with
    | ⟨0, _⟩ => rfl
    | ⟨1, _⟩ => rfl
    | ⟨2, _⟩ => exact (split3 h n d).1
    | ⟨3, _⟩ => exact (split3 h n d).2.1
    | ⟨4, _⟩ => exact (split3 h n d).2.2)
  have hs : third 1 h = ks h := Fin.ext (by show 1 * 8 + h.val = 8 + h.val; omega)
  rw [val_main_v11_apply, val_main_v10_apply, e, ref_v7, hs]

/-- The values. -/
theorem ref_v13 (h : Fin 8) (n : Fin 512) (d : Fin 64) :
    val_main_v13 (F := Ideal) x0 x2 x3 (ix4 (0 : Fin 1) h n d) = rowQ x0 x2 x3 n (seg (vs h) d) := by
  have e : idx_main_v12 (idx_main_v13 (ix4 (0 : Fin 1) h n d)) = ix5 (2 : Fin 3) (0 : Fin 1) h n d := funext fun a => Fin.ext (by
    match a with
    | ⟨0, _⟩ => rfl
    | ⟨1, _⟩ => rfl
    | ⟨2, _⟩ => exact (split3 h n d).1
    | ⟨3, _⟩ => exact (split3 h n d).2.1
    | ⟨4, _⟩ => exact (split3 h n d).2.2)
  have hs : third 2 h = vs h := Fin.ext (by show 2 * 8 + h.val = 16 + h.val; omega)
  rw [val_main_v13_apply, val_main_v12_apply, e, ref_v7, hs]

/-- The normalised queries. -/
theorem ref_v18 (h : Fin 8) (n : Fin 512) (d : Fin 64) :
    val_main_v18 (F := Ideal) x0 x2 x3 (ix4 (0 : Fin 1) h n d) = normed (rowQ x0 x2 x3 n) (qs h) d := by
  have e1 : idx_main_v17 (ix4 (0 : Fin 1) h n d) = ix4 (0 : Fin 1) h n (0 : Fin 1) := funext fun a => by
    match a with | ⟨0, _⟩ => rfl | ⟨1, _⟩ => rfl | ⟨2, _⟩ => rfl | ⟨3, _⟩ => rfl
  have e2 : ∀ k : Fin 64, idx_main_call0_v1 (idx_main_call0_v2 (ix4 (0 : Fin 1) h n (0 : Fin 1))) k = ix4 (0 : Fin 1) h n k :=
    fun k => funext fun a => by match a with | ⟨0, _⟩ => rfl | ⟨1, _⟩ => rfl | ⟨2, _⟩ => rfl | ⟨3, _⟩ => rfl
  have hz : val_main_call0_cst (F := Ideal) (Shape.Idx.first h_S_) = 0 := ofBits_zero
  rw [val_main_v18_apply, val_main_v17_apply, e1, val_main_v16_apply, val_main_v14_apply, val_main_call0_v2_apply,
    val_main_call0_v1_apply, val_main_v15_apply, hz, zero_add, ref_v9]
  simp only [e2, val_main_call0_v0_apply, ref_v9]
  rfl

/-- The normalised keys. -/
theorem ref_v23 (h : Fin 8) (n : Fin 512) (d : Fin 64) :
    val_main_v23 (F := Ideal) x0 x2 x3 (ix4 (0 : Fin 1) h n d) = normed (rowQ x0 x2 x3 n) (ks h) d := by
  have e1 : idx_main_v22 (ix4 (0 : Fin 1) h n d) = ix4 (0 : Fin 1) h n (0 : Fin 1) := funext fun a => by
    match a with | ⟨0, _⟩ => rfl | ⟨1, _⟩ => rfl | ⟨2, _⟩ => rfl | ⟨3, _⟩ => rfl
  have e2 : ∀ k : Fin 64, idx_main_call1_v1 (idx_main_call1_v2 (ix4 (0 : Fin 1) h n (0 : Fin 1))) k = ix4 (0 : Fin 1) h n k :=
    fun k => funext fun a => by match a with | ⟨0, _⟩ => rfl | ⟨1, _⟩ => rfl | ⟨2, _⟩ => rfl | ⟨3, _⟩ => rfl
  have hz : val_main_call1_cst (F := Ideal) (Shape.Idx.first h_S_) = 0 := ofBits_zero
  rw [val_main_v23_apply, val_main_v22_apply, e1, val_main_v21_apply, val_main_v19_apply, val_main_call1_v2_apply,
    val_main_call1_v1_apply, val_main_v20_apply, hz, zero_add, ref_v11]
  simp only [e2, val_main_call1_v0_apply, ref_v11]
  rfl

/-- Each query's similarity to each memory. -/
theorem ref_v27 (h : Fin 8) (n : Fin 512) (j : Fin 16384) :
    val_main_v27 (F := Ideal) x0 x1 x2 x3 (ix3 (0 : Fin 1) (hrow h n) j)
      = sim (rowQ x0 x2 x3 n) (fun j d => x1 (ix4 (0 : Fin 1) j (0 : Fin 2) d)) h j := by
  have el : ∀ k : Fin 64, idx_main_v26 (lidx_main_v27 (ix3 (0 : Fin 1) (hrow h n) j) k) = ix4 (0 : Fin 1) h n k :=
    fun k => funext fun a => Fin.ext (by
      match a with
      | ⟨0, _⟩ => rfl
      | ⟨1, _⟩ => show ((0 * 4096 + (h.val * 512 + n.val)) * 64 + k.val) / 32768 % 8 = h.val; omega
      | ⟨2, _⟩ => show ((0 * 4096 + (h.val * 512 + n.val)) * 64 + k.val) / 64 % 512 = n.val; omega
      | ⟨3, _⟩ => show ((0 * 4096 + (h.val * 512 + n.val)) * 64 + k.val) % 64 = k.val; omega)
  have er : ∀ k : Fin 64, idx_main_v24 (idx_main_v25 (ridx_main_v27 (ix3 (0 : Fin 1) (hrow h n) j) k)) = ix4 (0 : Fin 1) j (0 : Fin 2) k :=
    fun k => funext fun a => Fin.ext (by
      match a with
      | ⟨0, _⟩ => rfl
      | ⟨1, _⟩ => show ((0 * 16384 + j.val) * 64 + k.val) / 64 % 16384 = j.val; omega
      | ⟨2, _⟩ => rfl
      | ⟨3, _⟩ => show ((0 * 16384 + j.val) * 64 + k.val) % 64 = k.val; omega)
  rw [val_main_v27_apply]
  simp only [val_main_v26_apply, el, ref_v18, val_main_v25_apply, val_main_v24_apply, er]
  rfl

end Cert.Knn

end
-- ==== Proof.RefTopk.lean ====
/- The k greatest elements of each row and their positions, and the retrieved memories. -/
module

public import Idealize.ShloMosaic.Lib.SortFacts
public import Idealize.ShloMosaic.Lib.ValueIdxRank6
public import proofs.«01_k».proof.Proof.RefQkv

@[expose] public section

set_option maxRecDepth 16384

noncomputable section

namespace Cert.Knn

open Idealize.ShloMosaic hiding ix0 ix1 ix2 ix3 ix4 ix5 ix6
open Idealize.ShloMosaic.ValueIdx Cert.ReferenceIdeal Cert.ReferenceIdeal.Gen Cert.ReferenceIdeal.Read Idealize.ShloMosaic.TcCoe

/-- The positions of a row in decreasing order of its elements, equal ones by position. -/
def order {N : Nat} (s : Fin N → EReal) : Fin N → Fin N := sortedFrom fun k k' => decide (s k' < s k)

/-- In that order the elements do not increase. -/
theorem order_anti {N : Nat} (s : Fin N → EReal) (a b : Fin N) (h : a ≤ b) : s (order s b) ≤ s (order s a) := by
  rcases eq_or_lt_of_le h with rfl | h
  · exact le_rfl
  · have e := sortedFrom_noInversion (fun k k' => decide (s k' < s k)) (fun k k' => decide (s k' < s k))
      (fun a b h => decide_eq_false (not_lt.2 (of_decide_eq_true h).le)) (fun a b h => h)
      (fun a b c h1 h2 => decide_eq_false (not_lt.2 ((not_lt.1 (of_decide_eq_false h1)).trans (not_lt.1 (of_decide_eq_false h2))))) a b h
    exact not_lt.1 (of_decide_eq_false e)

/-- The total order's "greater" on extended reals. -/
theorem gt_apply (x y : EReal) : (FloatOps.cmpfTotal (F := Ideal) (φ := .f32) .gt x y == 1#1) = decide (y < x) := by
  have e : FloatOps.cmpfTotal (F := Ideal) (φ := .f32) .gt x y = BitVec.ofBool (decide (y < x)) := rfl
  rw [e]
  cases decide (y < x) <;> rfl

/-- An index with its last coordinate replaced. -/
theorem along_ix3 {M N : Nat} (i : Fin M) (k k' : Fin N) :
    (ix3 (0 : Fin 1) i k : (⟨3, ![1, M, N]⟩ : Shape).Idx).along (2 : Fin 3) k' = ix3 (0 : Fin 1) i k' := funext fun a => by
  match a with
  | ⟨0, _⟩ => rfl
  | ⟨1, _⟩ => rfl
  | ⟨2, _⟩ => rfl

/-- A sort of two arrays along an axis permutes both by the sorted positions of the first. -/
theorem sort2_eq {s : Shape} {α β : Type} (d : Nat) (hd : d < s.rank) (cmp : α × β → α × β → BitVec 1) (x : s.Idx → α) (y : s.Idx → β) :
    Host.sort2 s d cmp x y
      = (fun j => x (j.along ⟨d, hd⟩ (sortedFrom (fun k k' => cmp (x (j.along ⟨d, hd⟩ k), y (j.along ⟨d, hd⟩ k))
            (x (j.along ⟨d, hd⟩ k'), y (j.along ⟨d, hd⟩ k')) == 1#1) (j ⟨d, hd⟩))),
         fun j => y (j.along ⟨d, hd⟩ (sortedFrom (fun k k' => cmp (x (j.along ⟨d, hd⟩ k), y (j.along ⟨d, hd⟩ k))
            (x (j.along ⟨d, hd⟩ k'), y (j.along ⟨d, hd⟩ k')) == 1#1) (j ⟨d, hd⟩)))) := by
  unfold Host.sort2
  rw [dif_pos hd]

/-- The sort's permutation of row `i`. -/
theorem perm_eq {M N : Nat} (S : (⟨3, ![1, M, N]⟩ : Shape).Idx → EReal) (i : Fin M) (j : Fin N) :
    sortedFrom (n := N) (fun k k' => FloatOps.cmpfTotal (F := Ideal) (φ := .f32) .gt
      (S ((ix3 (0 : Fin 1) i j : (⟨3, ![1, M, N]⟩ : Shape).Idx).along (2 : Fin 3) k))
      (S ((ix3 (0 : Fin 1) i j : (⟨3, ![1, M, N]⟩ : Shape).Idx).along (2 : Fin 3) k')) == 1#1)
      = order (fun j => S (ix3 (0 : Fin 1) i j)) := by
  refine sortedFrom_congr _ _ fun k k' _ => ?_
  rw [gt_apply, along_ix3, along_ix3]

/-- The first `K` elements of each row. -/
theorem head_slice {M N : Nat} {α : Type} (K : Nat) (hK : K ≤ N) (hs : (⟨3, ![1, M, N]⟩ : Shape).Slices (fun _ => 0) ⟨3, ![1, M, K]⟩)
    (Z : (⟨3, ![1, M, N]⟩ : Shape).Idx → α) (i : Fin M) (r : Fin K) :
    extractStridedSlice ⟨3, ![1, M, K]⟩ (fun _ => 0) Z hs (ix3 (0 : Fin 1) i r) = Z (ix3 (0 : Fin 1) i (r.castLE hK)) :=
  extractStridedSlice_apply _ Z hs _ (ix3 (0 : Fin 1) i (r.castLE hK)) (fun a => by
    match a with
    | ⟨0, _⟩ => exact (Nat.zero_add _).symm
    | ⟨1, _⟩ => exact (Nat.zero_add _).symm
    | ⟨2, _⟩ => exact (Nat.zero_add _).symm)

/-- The `r`-th greatest element of row `i`. -/
theorem topK_fst {M N : Nat} (K : Nat) (hK : K ≤ N) (hs : (⟨3, ![1, M, N]⟩ : Shape).Slices (fun _ => 0) ⟨3, ![1, M, K]⟩)
    (S : (⟨3, ![1, M, N]⟩ : Shape).Idx → EReal) (i : Fin M) (r : Fin K) :
    (Host.topK ⟨3, ![1, M, K]⟩ 2 (FloatOps.cmpfTotal (F := Ideal) (φ := .f32) .gt) S hs).1 (ix3 (0 : Fin 1) i r)
      = S (ix3 (0 : Fin 1) i (order (fun j => S (ix3 (0 : Fin 1) i j)) (r.castLE hK))) := by
  unfold Host.topK
  dsimp only
  rw [head_slice K hK hs, sort2_eq 2 (by decide : 2 < 3)]
  have e := congrFun (perm_eq S i (r.castLE hK)) (r.castLE hK)
  have h := along_ix3 i (r.castLE hK) (order (fun j => S (ix3 (0 : Fin 1) i j)) (r.castLE hK))
  rw [← h, ← e]
  rfl

/-- Its position, as a word. -/
theorem topK_snd {M N : Nat} (K : Nat) (hK : K ≤ N) (hs : (⟨3, ![1, M, N]⟩ : Shape).Slices (fun _ => 0) ⟨3, ![1, M, K]⟩)
    (S : (⟨3, ![1, M, N]⟩ : Shape).Idx → EReal) (i : Fin M) (r : Fin K) :
    (Host.topK ⟨3, ![1, M, K]⟩ 2 (FloatOps.cmpfTotal (F := Ideal) (φ := .f32) .gt) S hs).2 (ix3 (0 : Fin 1) i r)
      = BitVec.ofNat 32 (order (fun j => S (ix3 (0 : Fin 1) i j)) (r.castLE hK)).val := by
  unfold Host.topK
  dsimp only
  rw [head_slice K hK hs, sort2_eq 2 (by decide : 2 < 3)]
  have e := congrFun (perm_eq S i (r.castLE hK)) (r.castLE hK)
  rw [← e]
  rfl

/-- A position below 16384 as a signed word. -/
theorem word_toInt (k : Fin 16384) : (BitVec.ofNat 32 k.val).toInt = k.val := by
  have hk := k.isLt
  have hn : (BitVec.ofNat 32 k.val).toNat = k.val := by rw [BitVec.toNat_ofNat, Nat.mod_eq_of_lt (by omega)]
  rw [BitVec.toInt_eq_toNat_of_lt (by rw [hn]; omega), hn]

/-- It is nonnegative. -/
theorem word_nonneg (k : Fin 16384) : IntOp.cmpi .slt (BitVec.ofNat 32 k.val) 0#32 = 0#1 := by
  have h : (BitVec.ofNat 32 k.val).slt 0#32 = false := by
    refine decide_eq_false ?_
    rw [word_toInt]
    exact not_lt.2 (Int.natCast_nonneg _)
  show BitVec.ofBool ((BitVec.ofNat 32 k.val).slt 0#32) = 0#1
  rw [h]
  rfl

/-- Its value as a start index, read signed and clamped, is itself. -/
theorem word_start (k : Fin 16384) : min (BitVec.ofNat 32 k.val).toInt.toNat (16384 - 1) = k.val := by
  rw [word_toInt]
  have := k.isLt
  omega

variable (x0 : (⟨S1x4x8x16x512, .f32⟩ : BufTy).Contents (Elt Ideal)) (x1 : (⟨S1x16384x2x64, .f32⟩ : BufTy).Contents (Elt Ideal))
  (x2 : (⟨S1536x512, .f32⟩ : BufTy).Contents (Elt Ideal)) (x3 : (⟨S1536, .f32⟩ : BufTy).Contents (Elt Ideal))

/-- The similarities of head `h`, position `n`. -/
def simRow (h : Fin 8) (n : Fin 512) : Fin 16384 → EReal :=
  sim (rowQ x0 x2 x3 n) (fun j d => x1 (ix4 (0 : Fin 1) j (0 : Fin 2) d)) h

/-- The memory retrieved `r`-th. -/
def pick (h : Fin 8) (n : Fin 512) (r : Fin 32) : Fin 16384 := order (simRow x0 x1 x2 x3 h n) (r.castLE (by decide))

/-- The retrieved positions, as words. -/
theorem ref_indices (h : Fin 8) (n : Fin 512) (r : Fin 32) :
    val_main_indices (F := Ideal) x0 x1 x2 x3 (ix3 (0 : Fin 1) (hrow h n) r) = BitVec.ofNat 32 (pick x0 x1 x2 x3 h n r).val := by
  have hr : (fun j => val_main_v27 (F := Ideal) x0 x1 x2 x3 (ix3 (0 : Fin 1) (hrow h n) j)) = simRow x0 x1 x2 x3 h n :=
    funext fun j => ref_v27 x0 x1 x2 x3 h n j
  refine (topK_snd 32 (by decide) sliceFits_S1x4096x16384_S1x4096x32 (val_main_v27 (F := Ideal) x0 x1 x2 x3) (hrow h n) r).trans ?_
  rw [hr]
  rfl

/-- The start indices. -/
theorem ref_v33 (h : Fin 8) (n : Fin 512) (r : Fin 32) :
    val_main_v33 (F := Ideal) x0 x1 x2 x3 (ix4 (0 : Fin 1) (hrow h n) r (0 : Fin 1)) = BitVec.ofNat 32 (pick x0 x1 x2 x3 h n r).val := by
  have e : idx_main_v33 (ix4 (0 : Fin 1) (hrow h n) r (0 : Fin 1)) = ix3 (0 : Fin 1) (hrow h n) r := funext fun a => by
    match a with | ⟨0, _⟩ => rfl | ⟨1, _⟩ => rfl | ⟨2, _⟩ => rfl
  have hz : ∀ i, val_main_v28 (F := Ideal) i = 0#32 := fun i => by rw [val_main_v28_apply]; rfl
  rw [val_main_v33_apply, e, val_main_v32_apply, val_main_v29_apply, hz, ref_indices, word_nonneg]
  rfl

/-- How the reference's lookup reads its operand. -/
abbrev G : GatherDims S1x16384x2x64 S1x4096x32x1 S1x4096x32x2x64 := gather_S1x16384x2x64_S1x4096x32x1_S1x4096x32x2x64_34_1_0_0_1_3_11264

/-- The retrieved memories: key (`k = 0`) and value (`k = 1`). -/
theorem ref_v34 (h : Fin 8) (n : Fin 512) (r : Fin 32) (k : Fin 2) (d : Fin 64) :
    val_main_v34 (F := Ideal) x0 x1 x2 x3 (ix5 (0 : Fin 1) (hrow h n) r k d) = x1 (ix4 (0 : Fin 1) (pick x0 x1 x2 x3 h n r) k d) := by
  have hv := ref_v33 x0 x1 x2 x3 h n r
  unfold val_main_v34
  generalize val_main_v33 (F := Ideal) x0 x1 x2 x3 = I at hv ⊢
  unfold Host.gather
  refine congrArg x1 (funext fun a => Fin.ext ?_)
  match a with
  | ⟨0, _⟩ => rfl
  | ⟨1, _⟩ =>
    have h1 : G.batchCoord (ix5 (0 : Fin 1) (hrow h n) r k d) 1 = 0 := G.batchCoord_eq_zero _ _ (by decide)
    have h2 : G.offCoord (ix5 (0 : Fin 1) (hrow h n) r k d) 1 = 0 := G.offCoord_eq_zero _ _ (by decide)
    have h3 : G.start (ix5 (0 : Fin 1) (hrow h n) r k d) I 1 = (pick x0 x1 x2 x3 h n r).val := by
      unfold GatherDims.start
      rw [dif_pos (by decide)]
      have hs : G.siIdx (ix5 (0 : Fin 1) (hrow h n) r k d) ⟨List.idxOf (1 : Fin 4) G.startIndexMap, List.idxOf_lt_length_iff.2 (by decide)⟩
          = ix4 (0 : Fin 1) (hrow h n) r (0 : Fin 1) := funext fun b => by
        match b with | ⟨0, _⟩ => rfl | ⟨1, _⟩ => rfl | ⟨2, _⟩ => rfl | ⟨3, _⟩ => rfl
      rw [hs, hv]
      exact word_start _
    show G.start (ix5 (0 : Fin 1) (hrow h n) r k d) I 1 + G.batchCoord (ix5 (0 : Fin 1) (hrow h n) r k d) 1
      + G.offCoord (ix5 (0 : Fin 1) (hrow h n) r k d) 1 = (pick x0 x1 x2 x3 h n r).val
    rw [h1, h2, h3, Nat.add_zero]
  | ⟨2, _⟩ => exact Nat.zero_add _
  | ⟨3, _⟩ => exact Nat.zero_add _

end Cert.Knn

end
-- ==== Proof.PreRead.lean ====
/- What the precondition states of each query: its 33 greatest similarities strictly decrease, and the greatest is not infinite. -/
module

public import proofs.«01_k».proof.Proof.PreFacts
public import proofs.«01_k».proof.Proof.RefTopk
public import proofs.«01_k».proof.Proof.Ops

@[expose] public section

set_option maxRecDepth 16384

noncomputable section

namespace Cert.Knn

open Idealize.ShloMosaic hiding ix0 ix1 ix2 ix3 ix4 ix5 ix6
open Idealize.ShloMosaic.ValueIdx Idealize.ShloMosaic.TcCoe

attribute [local instance] Cert.Pre_no_tied_neighbours.Gen.facts

/-- A truth word that is one. -/
theorem of_ofBool {p : Prop} [Decidable p] (h : BitVec.ofBool (decide p) = 1#1) : p := by
  by_contra hp
  rw [decide_eq_false hp] at h
  exact absurd h (by decide)

/-- A slice starting at column `o` reads that much further along. -/
theorem tail_slice {M K L : Nat} (o : Nat) (ho : ∀ r : Fin L, o + r.val < K)
    (hs : (⟨3, ![1, M, K]⟩ : Shape).Slices ![0, 0, o] ⟨3, ![1, M, L]⟩) (Z : (⟨3, ![1, M, K]⟩ : Shape).Idx → EReal) (i : Fin M) (r : Fin L) :
    extractStridedSlice ⟨3, ![1, M, L]⟩ ![0, 0, o] Z hs (ix3 (0 : Fin 1) i r) = Z (ix3 (0 : Fin 1) i ⟨o + r.val, ho r⟩) :=
  extractStridedSlice_apply _ Z hs _ (ix3 (0 : Fin 1) i ⟨o + r.val, ho r⟩) (fun a => by
    match a with
    | ⟨0, _⟩ => exact (Nat.zero_add _).symm
    | ⟨1, _⟩ => exact (Nat.zero_add _).symm
    | ⟨2, _⟩ => rfl)

/-- Neighbours among the greatest 33 compared. -/
theorem neighbours {M N : Nat} (hK : 33 ≤ N) (ht : (⟨3, ![1, M, N]⟩ : Shape).Slices (fun _ => 0) ⟨3, ![1, M, 33]⟩)
    (h0 : (⟨3, ![1, M, 33]⟩ : Shape).Slices ![0, 0, 0] ⟨3, ![1, M, 32]⟩) (h1 : (⟨3, ![1, M, 33]⟩ : Shape).Slices ![0, 0, 1] ⟨3, ![1, M, 32]⟩)
    (S : (⟨3, ![1, M, N]⟩ : Shape).Idx → EReal) (i : Fin M) (r : Fin 32)
    (h : cmpf (F := Ideal) (φ := .f32) .ogt
      (extractStridedSlice ⟨3, ![1, M, 32]⟩ ![0, 0, 0] (Host.topK ⟨3, ![1, M, 33]⟩ 2 (FloatOps.cmpfTotal (F := Ideal) (φ := .f32) .gt) S ht).1 h0)
      (extractStridedSlice ⟨3, ![1, M, 32]⟩ ![0, 0, 1] (Host.topK ⟨3, ![1, M, 33]⟩ 2 (FloatOps.cmpfTotal (F := Ideal) (φ := .f32) .gt) S ht).1 h1)
      (ix3 (0 : Fin 1) i r) = 1#1) :
    S (ix3 (0 : Fin 1) i (order (fun j => S (ix3 (0 : Fin 1) i j)) ⟨r.val + 1, by omega⟩))
      < S (ix3 (0 : Fin 1) i (order (fun j => S (ix3 (0 : Fin 1) i j)) ⟨r.val, by omega⟩)) := by
  have h' := of_ofBool (p := extractStridedSlice ⟨3, ![1, M, 32]⟩ ![0, 0, 1] (Host.topK ⟨3, ![1, M, 33]⟩ 2 (FloatOps.cmpfTotal (F := Ideal) (φ := .f32) .gt) S ht).1 h1
      (ix3 (0 : Fin 1) i r) < extractStridedSlice ⟨3, ![1, M, 32]⟩ ![0, 0, 0] (Host.topK ⟨3, ![1, M, 33]⟩ 2 (FloatOps.cmpfTotal (F := Ideal) (φ := .f32) .gt) S ht).1 h0
      (ix3 (0 : Fin 1) i r)) h
  rw [tail_slice 1 (by omega) h1, tail_slice 0 (by omega) h0, topK_fst 33 hK ht, topK_fst 33 hK ht] at h'
  have e1 : (Fin.castLE hK ⟨1 + r.val, by omega⟩ : Fin N) = ⟨r.val + 1, by omega⟩ := Fin.ext (Nat.add_comm 1 _)
  have e0 : (Fin.castLE hK ⟨0 + r.val, by omega⟩ : Fin N) = ⟨r.val, by omega⟩ := Fin.ext (Nat.zero_add _)
  rwa [e1, e0] at h'

/-- The greatest compared with infinity. -/
theorem greatest {M N : Nat} (hK : 33 ≤ N) (ht : (⟨3, ![1, M, N]⟩ : Shape).Slices (fun _ => 0) ⟨3, ![1, M, 33]⟩)
    (h0 : (⟨3, ![1, M, 33]⟩ : Shape).Slices ![0, 0, 0] ⟨3, ![1, M, 1]⟩)
    (S : (⟨3, ![1, M, N]⟩ : Shape).Idx → EReal) (C : (⟨3, ![1, M, 1]⟩ : Shape).Idx → EReal) (hC : ∀ i, C i = ⊤) (i : Fin M)
    (h : cmpf (F := Ideal) (φ := .f32) .olt
      (extractStridedSlice ⟨3, ![1, M, 1]⟩ ![0, 0, 0] (Host.topK ⟨3, ![1, M, 33]⟩ 2 (FloatOps.cmpfTotal (F := Ideal) (φ := .f32) .gt) S ht).1 h0) C
      (ix3 (0 : Fin 1) i (0 : Fin 1)) = 1#1) :
    S (ix3 (0 : Fin 1) i (order (fun j => S (ix3 (0 : Fin 1) i j)) ⟨0, by omega⟩)) < ⊤ := by
  have h' := of_ofBool (p := extractStridedSlice ⟨3, ![1, M, 1]⟩ ![0, 0, 0] (Host.topK ⟨3, ![1, M, 33]⟩ 2 (FloatOps.cmpfTotal (F := Ideal) (φ := .f32) .gt) S ht).1 h0
      (ix3 (0 : Fin 1) i (0 : Fin 1)) < C (ix3 (0 : Fin 1) i (0 : Fin 1))) h
  rw [tail_slice 0 (by omega) h0, topK_fst 33 hK ht, hC] at h'
  exact h'

section
open Cert.ReferenceIdeal Cert.ReferenceIdeal.Gen Cert.ReferenceIdeal.Read

variable (x0 : (⟨S1x4x8x16x512, .f32⟩ : BufTy).Contents (Elt Ideal)) (x1 : (⟨S1x16384x2x64, .f32⟩ : BufTy).Contents (Elt Ideal))
  (x2 : (⟨S1536x512, .f32⟩ : BufTy).Contents (Elt Ideal)) (x3 : (⟨S1536, .f32⟩ : BufTy).Contents (Elt Ideal))
  (x4 : (⟨S512x512, .f32⟩ : BufTy).Contents (Elt Ideal)) (x5 : (⟨S512, .f32⟩ : BufTy).Contents (Elt Ideal))

/-- The precondition compares the reference's own similarities. -/
theorem pre_eq : Cert.Pre_no_tied_neighbours.fn (F := Ideal) x0 x1 x2 x3 x4 x5
    = Cert.Pre_no_tied_neighbours.fn_part1 (F := Ideal) (val_main_v27 (F := Ideal) x0 x1 x2 x3) := rfl

/-- A row of the similarities. -/
theorem row_v27 (h : Fin 8) (n : Fin 512) :
    (fun j => val_main_v27 (F := Ideal) x0 x1 x2 x3 (ix3 (0 : Fin 1) (hrow h n) j)) = simRow x0 x1 x2 x3 h n :=
  funext fun j => ref_v27 x0 x1 x2 x3 h n j

/-- Under the precondition the 33 greatest similarities of each query strictly decrease. -/
theorem pre_decreasing (hp : (Cert.Pre_no_tied_neighbours.fn (F := Ideal) x0 x1 x2 x3 x4 x5).1 = fun _ => 1#1) (h : Fin 8) (n : Fin 512)
    (r : Fin 32) : simRow x0 x1 x2 x3 h n (order (simRow x0 x1 x2 x3 h n) ⟨r.val + 1, by omega⟩)
      < simRow x0 x1 x2 x3 h n (order (simRow x0 x1 x2 x3 h n) ⟨r.val, by omega⟩) := by
  rw [pre_eq] at hp
  have e := neighbours (M := 4096) (N := 16384) (by decide) Cert.Pre_no_tied_neighbours.Facts.sliceFits_S1x4096x16384_S1x4096x33
    Cert.Pre_no_tied_neighbours.Facts.slices_S1x4096x33_S1x4096x32_0_0_0 Cert.Pre_no_tied_neighbours.Facts.slices_S1x4096x33_S1x4096x32_0_0_1
    (val_main_v27 (F := Ideal) x0 x1 x2 x3) (hrow h n) r (congrFun hp (ix3 (0 : Fin 1) (hrow h n) r))
  rw [row_v27, ref_v27, ref_v27] at e
  exact e

/-- Under the precondition the greatest similarity of each query is not infinite. -/
theorem pre_finite (hp : (Cert.Pre_no_tied_neighbours.fn (F := Ideal) x0 x1 x2 x3 x4 x5).2 = fun _ => 1#1) (h : Fin 8) (n : Fin 512) :
    simRow x0 x1 x2 x3 h n (order (simRow x0 x1 x2 x3 h n) ⟨0, by omega⟩) < ⊤ := by
  rw [pre_eq] at hp
  have e := greatest (M := 4096) (N := 16384) (by decide) Cert.Pre_no_tied_neighbours.Facts.sliceFits_S1x4096x16384_S1x4096x33
    Cert.Pre_no_tied_neighbours.Facts.slices_S1x4096x33_S1x4096x1_0_0_0
    (val_main_v27 (F := Ideal) x0 x1 x2 x3) _ (fun _ => ofBits_inf) (hrow h n) (congrFun hp (ix3 (0 : Fin 1) (hrow h n) (0 : Fin 1)))
  rw [row_v27, ref_v27] at e
  exact e

end

end Cert.Knn

end
-- ==== Proof.RefAttend.lean ====
/- What the reference computes from the retrieved memories: the 33 logits and values of each query, and their softmax. -/
module

public import Idealize.ShloMosaic.Lib.Pointwise
public import proofs.«01_k».proof.Proof.RefTopk
public import proofs.«01_k».proof.Proof.Attend

@[expose] public section

set_option maxRecDepth 16384

noncomputable section

namespace Cert.Knn

open Idealize.ShloMosaic hiding ix0 ix1 ix2 ix3 ix4 ix5 ix6
open Idealize.ShloMosaic.ValueIdx Cert.ReferenceIdeal Cert.ReferenceIdeal.Gen Cert.ReferenceIdeal.Read Idealize.ShloMosaic.TcCoe

variable (x0 : (⟨S1x4x8x16x512, .f32⟩ : BufTy).Contents (Elt Ideal)) (x1 : (⟨S1x16384x2x64, .f32⟩ : BufTy).Contents (Elt Ideal))
  (x2 : (⟨S1536x512, .f32⟩ : BufTy).Contents (Elt Ideal)) (x3 : (⟨S1536, .f32⟩ : BufTy).Contents (Elt Ideal))

/-- The retrieved memories by head and position. -/
theorem ref_v35 (h : Fin 8) (n : Fin 512) (r : Fin 32) (k : Fin 2) (d : Fin 64) :
    val_main_v35 (F := Ideal) x0 x1 x2 x3 (ix6 (0 : Fin 1) h n r k d) = x1 (ix4 (0 : Fin 1) (pick x0 x1 x2 x3 h n r) k d) := by
  unfold val_main_v35
  refine (shapeCast_apply _ shapeCasts_S1x4096x32x2x64_S1x8x512x32x2x64 _ (ix5 (0 : Fin 1) (hrow h n) r k d) ?_).trans
    (ref_v34 x0 x1 x2 x3 h n r k d)
  rw [Shape.rowMajor_val_five, Shape.rowMajor_val_six]
  show (((0 * 4096 + (h.val * 512 + n.val)) * 32 + r.val) * 2 + k.val) * 64 + d.val
    = ((((0 * 8 + h.val) * 512 + n.val) * 32 + r.val) * 2 + k.val) * 64 + d.val
  omega

/-- The retrieved keys. -/
theorem ref_v37 (h : Fin 8) (n : Fin 512) (r : Fin 32) (d : Fin 64) :
    val_main_v37 (F := Ideal) x0 x1 x2 x3 (ix5 (0 : Fin 1) h n r d) = x1 (ix4 (0 : Fin 1) (pick x0 x1 x2 x3 h n r) (0 : Fin 2) d) := by
  have e : idx_main_v36 (ix6 (0 : Fin 1) h n r (0 : Fin 1) d) = ix6 (0 : Fin 1) h n r (0 : Fin 2) d := funext fun a => by
    match a with | ⟨0, _⟩ => rfl | ⟨1, _⟩ => rfl | ⟨2, _⟩ => rfl | ⟨3, _⟩ => rfl | ⟨4, _⟩ => rfl | ⟨5, _⟩ => rfl
  unfold val_main_v37
  refine (shapeCast_apply _ shapeCasts_S1x8x512x32x1x64_S1x8x512x32x64 _ (ix6 (0 : Fin 1) h n r (0 : Fin 1) d) ?_).trans ?_
  · rw [Shape.rowMajor_val_five, Shape.rowMajor_val_six]
    show ((((0 * 8 + h.val) * 512 + n.val) * 32 + r.val) * 1 + 0) * 64 + d.val = (((0 * 8 + h.val) * 512 + n.val) * 32 + r.val) * 64 + d.val
    omega
  · rw [val_main_v36_apply, e, ref_v35]

/-- The retrieved values. -/
theorem ref_v39 (h : Fin 8) (n : Fin 512) (r : Fin 32) (d : Fin 64) :
    val_main_v39 (F := Ideal) x0 x1 x2 x3 (ix5 (0 : Fin 1) h n r d) = x1 (ix4 (0 : Fin 1) (pick x0 x1 x2 x3 h n r) (1 : Fin 2) d) := by
  have e : idx_main_v38 (ix6 (0 : Fin 1) h n r (0 : Fin 1) d) = ix6 (0 : Fin 1) h n r (1 : Fin 2) d := funext fun a => by
    match a with | ⟨0, _⟩ => rfl | ⟨1, _⟩ => rfl | ⟨2, _⟩ => rfl | ⟨3, _⟩ => rfl | ⟨4, _⟩ => rfl | ⟨5, _⟩ => rfl
  unfold val_main_v39
  refine (shapeCast_apply _ shapeCasts_S1x8x512x32x1x64_S1x8x512x32x64 _ (ix6 (0 : Fin 1) h n r (0 : Fin 1) d) ?_).trans ?_
  · rw [Shape.rowMajor_val_five, Shape.rowMajor_val_six]
    show ((((0 * 8 + h.val) * 512 + n.val) * 32 + r.val) * 1 + 0) * 64 + d.val = (((0 * 8 + h.val) * 512 + n.val) * 32 + r.val) * 64 + d.val
    omega
  · rw [val_main_v38_apply, e, ref_v35]

/-- The first 32 of 33 rows are the first piece's. -/
theorem concat_left (A : Vec Ideal S1x8x512x32x64 .f32) (B : Vec Ideal S1x8x512x1x64 .f32)
    (hc : Shape.Concatenates [S1x8x512x32x64, S1x8x512x1x64] S1x8x512x33x64 3) (h : Fin 8) (n : Fin 512) (r : Fin 32) (d : Fin 64) :
    concatenate S1x8x512x33x64 3 [⟨S1x8x512x32x64, A⟩, ⟨S1x8x512x1x64, B⟩] hc (ix5 (0 : Fin 1) h n r.castSucc d)
      = A (ix5 (0 : Fin 1) h n r d) :=
  concatenate_pair_apply_left (t := S1x8x512x33x64) 3 A B hc _ rfl _ (fun b => by
    match b with | ⟨0, _⟩ => rfl | ⟨1, _⟩ => rfl | ⟨2, _⟩ => rfl | ⟨3, _⟩ => rfl | ⟨4, _⟩ => rfl)

/-- The last of 33 rows is the second piece's. -/
theorem concat_right (A : Vec Ideal S1x8x512x32x64 .f32) (B : Vec Ideal S1x8x512x1x64 .f32)
    (hc : Shape.Concatenates [S1x8x512x32x64, S1x8x512x1x64] S1x8x512x33x64 3) (h : Fin 8) (n : Fin 512) (d : Fin 64) :
    concatenate S1x8x512x33x64 3 [⟨S1x8x512x32x64, A⟩, ⟨S1x8x512x1x64, B⟩] hc (ix5 (0 : Fin 1) h n (Fin.last 32) d)
      = B (ix5 (0 : Fin 1) h n (0 : Fin 1) d) :=
  concatenate_pair_apply_right (t := S1x8x512x33x64) 3 A B hc _ rfl rfl _ (fun b hb => by
    match b with
    | ⟨0, _⟩ => rfl
    | ⟨1, _⟩ => rfl
    | ⟨2, _⟩ => rfl
    | ⟨3, _⟩ => exact absurd rfl hb
    | ⟨4, _⟩ => rfl) rfl

/-- The values: the memories'. -/
theorem ref_v43_mem (h : Fin 8) (n : Fin 512) (r : Fin 32) (d : Fin 64) :
    val_main_v43 (F := Ideal) x0 x1 x2 x3 (ix5 (0 : Fin 1) h n r.castSucc d) = x1 (ix4 (0 : Fin 1) (pick x0 x1 x2 x3 h n r) (1 : Fin 2) d) :=
  (concat_left _ _ _ h n r d).trans (ref_v39 x0 x1 x2 x3 h n r d)

/-- The values: the position's own. -/
theorem ref_v43_own (h : Fin 8) (n : Fin 512) (d : Fin 64) :
    val_main_v43 (F := Ideal) x0 x1 x2 x3 (ix5 (0 : Fin 1) h n (Fin.last 32) d) = rowQ x0 x2 x3 n (seg (vs h) d) := by
  have e : idx_main_v42 (ix5 (0 : Fin 1) h n (0 : Fin 1) d) = ix4 (0 : Fin 1) h n d := funext fun a => by
    match a with | ⟨0, _⟩ => rfl | ⟨1, _⟩ => rfl | ⟨2, _⟩ => rfl | ⟨3, _⟩ => rfl
  refine (concat_right _ _ _ h n d).trans ?_
  rw [val_main_v42_apply, e, ref_v13]

/-- The keys: the memories'. -/
theorem ref_v41_mem (h : Fin 8) (n : Fin 512) (r : Fin 32) (d : Fin 64) :
    val_main_v41 (F := Ideal) x0 x1 x2 x3 (ix5 (0 : Fin 1) h n r.castSucc d) = x1 (ix4 (0 : Fin 1) (pick x0 x1 x2 x3 h n r) (0 : Fin 2) d) :=
  (concat_left _ _ _ h n r d).trans (ref_v37 x0 x1 x2 x3 h n r d)

/-- The keys: the position's own. -/
theorem ref_v41_own (h : Fin 8) (n : Fin 512) (d : Fin 64) :
    val_main_v41 (F := Ideal) x0 x1 x2 x3 (ix5 (0 : Fin 1) h n (Fin.last 32) d) = normed (rowQ x0 x2 x3 n) (ks h) d := by
  have e : idx_main_v40 (ix5 (0 : Fin 1) h n (0 : Fin 1) d) = ix4 (0 : Fin 1) h n d := funext fun a => by
    match a with | ⟨0, _⟩ => rfl | ⟨1, _⟩ => rfl | ⟨2, _⟩ => rfl | ⟨3, _⟩ => rfl
  refine (concat_right _ _ _ h n d).trans ?_
  rw [val_main_v40_apply, e, ref_v23]

/-- Each logit: the normalised query against a key, times an eighth. -/
theorem ref_v51 (h : Fin 8) (n : Fin 512) (r : Fin 33) :
    val_main_v51 (F := Ideal) x0 x1 x2 x3 (ix5 (0 : Fin 1) h n (0 : Fin 1) r)
      = (∑ d : Fin 64, normed (rowQ x0 x2 x3 n) (qs h) d * val_main_v41 (F := Ideal) x0 x1 x2 x3 (ix5 (0 : Fin 1) h n r d))
        * ((1 / 8 : ℝ) : EReal) := by
  have e1 : idx_main_v49 (ix5 (0 : Fin 1) h n (0 : Fin 1) r) = ix4 h n (0 : Fin 1) r := funext fun a => by
    match a with | ⟨0, _⟩ => rfl | ⟨1, _⟩ => rfl | ⟨2, _⟩ => rfl | ⟨3, _⟩ => rfl
  have el : ∀ d : Fin 64, idx_main_v44 (idx_main_v46 (lidx_main_v48 (ix4 h n (0 : Fin 1) r) d)) = ix4 (0 : Fin 1) h n d :=
    fun d => funext fun a => Fin.ext (by
      match a with
      | ⟨0, _⟩ => rfl
      | ⟨1, _⟩ => show (((h.val * 512 + n.val) * 1 + 0) * 64 + d.val) / 32768 % 8 = h.val; omega
      | ⟨2, _⟩ => show (((h.val * 512 + n.val) * 1 + 0) * 64 + d.val) / 64 % 512 = n.val; omega
      | ⟨3, _⟩ => show (((h.val * 512 + n.val) * 1 + 0) * 64 + d.val) % 64 = d.val; omega)
  have er : ∀ d : Fin 64, idx_main_v45 (idx_main_v47 (ridx_main_v48 (ix4 h n (0 : Fin 1) r) d)) = ix5 (0 : Fin 1) h n r d :=
    fun d => funext fun a => Fin.ext (by
      match a with
      | ⟨0, _⟩ => rfl
      | ⟨1, _⟩ => show (((h.val * 512 + n.val) * 64 + d.val) * 33 + r.val) / 1081344 % 8 = h.val; omega
      | ⟨2, _⟩ => show (((h.val * 512 + n.val) * 64 + d.val) * 33 + r.val) / 2112 % 512 = n.val; omega
      | ⟨3, _⟩ => show (((h.val * 512 + n.val) * 64 + d.val) * 33 + r.val) % 33 = r.val; omega
      | ⟨4, _⟩ => show (((h.val * 512 + n.val) * 64 + d.val) * 33 + r.val) / 33 % 64 = d.val; omega)
  have hc : val_main_v50 (F := Ideal) (ix5 (0 : Fin 1) h n (0 : Fin 1) r) = ((1 / 8 : ℝ) : EReal) := by
    rw [val_main_v50_apply, val_main_cst_2_apply]; exact ofBits_eighth
  rw [val_main_v51_apply, val_main_v49_apply, e1, val_main_v48_apply, hc]
  simp only [val_main_v46_apply, val_main_v44_apply, el, val_main_v47_apply, val_main_v45_apply, er, ref_v18]
  rfl

/-- A memory's logit. -/
theorem ref_v51_mem (h : Fin 8) (n : Fin 512) (r : Fin 32) :
    val_main_v51 (F := Ideal) x0 x1 x2 x3 (ix5 (0 : Fin 1) h n (0 : Fin 1) r.castSucc)
      = simRow x0 x1 x2 x3 h n (pick x0 x1 x2 x3 h n r) * ((1 / 8 : ℝ) : EReal) := by
  rw [ref_v51]
  simp only [ref_v41_mem]
  rfl

/-- The own logit. -/
theorem ref_v51_own (h : Fin 8) (n : Fin 512) :
    val_main_v51 (F := Ideal) x0 x1 x2 x3 (ix5 (0 : Fin 1) h n (0 : Fin 1) (Fin.last 32)) = own (rowQ x0 x2 x3 n) h := by
  rw [ref_v51]
  simp only [ref_v41_own]
  rfl

/-- A maximum over the last axis. -/
theorem max_last (X : Vec Ideal S1x8x512x1x33 .f32) (c : Vec Ideal S_ .f32) (hc : ∀ i, c i = ⊥) (h : Fin 8) (n : Fin 512) :
    Host.reduce (FloatOps.maximumf (F := Ideal) (φ := .f32)) X c reducesTo_S1x8x512x1x33_S1x8x512x1_d4 h_S_ (ix4 (0 : Fin 1) h n (0 : Fin 1))
      = Finset.univ.fold max ⊥ fun r : Fin 33 => X (ix5 (0 : Fin 1) h n (0 : Fin 1) r) := by
  rw [Host.reduce_eq_fold, Shape.ReducesTo.fold_fiber_r5_a4, hc]
  rfl

/-- The attention of head `h` at position `n`, column `d`: the softmax of the logits against the values. -/
theorem ref_v69 (h : Fin 8) (n : Fin 512) (d : Fin 64) :
    val_main_v69 (F := Ideal) x0 x1 x2 x3 (ix4 h n (0 : Fin 1) d)
      = softmaxDot (fun r => val_main_v51 (F := Ideal) x0 x1 x2 x3 (ix5 (0 : Fin 1) h n (0 : Fin 1) r))
          (fun r => val_main_v43 (F := Ideal) x0 x1 x2 x3 (ix5 (0 : Fin 1) h n r d)) := by
  have el : ∀ r : Fin 33, idx_main_v67 (lidx_main_v69 (ix4 h n (0 : Fin 1) d) r) = ix5 (0 : Fin 1) h n (0 : Fin 1) r :=
    fun r => funext fun a => Fin.ext (by
      match a with
      | ⟨0, _⟩ => rfl
      | ⟨1, _⟩ => show (((h.val * 512 + n.val) * 1 + 0) * 33 + r.val) / 16896 % 8 = h.val; omega
      | ⟨2, _⟩ => show (((h.val * 512 + n.val) * 1 + 0) * 33 + r.val) / 33 % 512 = n.val; omega
      | ⟨3, _⟩ => rfl
      | ⟨4, _⟩ => show (((h.val * 512 + n.val) * 1 + 0) * 33 + r.val) % 33 = r.val; omega)
  have er : ∀ r : Fin 33, idx_main_v68 (ridx_main_v69 (ix4 h n (0 : Fin 1) d) r) = ix5 (0 : Fin 1) h n r d :=
    fun r => funext fun a => Fin.ext (by
      match a with
      | ⟨0, _⟩ => rfl
      | ⟨1, _⟩ => show (((h.val * 512 + n.val) * 33 + r.val) * 64 + d.val) / 1081344 % 8 = h.val; omega
      | ⟨2, _⟩ => show (((h.val * 512 + n.val) * 33 + r.val) * 64 + d.val) / 2112 % 512 = n.val; omega
      | ⟨3, _⟩ => show (((h.val * 512 + n.val) * 33 + r.val) * 64 + d.val) / 64 % 33 = r.val; omega
      | ⟨4, _⟩ => show (((h.val * 512 + n.val) * 33 + r.val) * 64 + d.val) % 64 = d.val; omega)
  have e54 : ∀ r : Fin 33, idx_main_v53 (idx_main_v54 (ix5 (0 : Fin 1) h n (0 : Fin 1) r)) = ix4 (0 : Fin 1) h n (0 : Fin 1) := fun r => funext fun a => by
    match a with | ⟨0, _⟩ => rfl | ⟨1, _⟩ => rfl | ⟨2, _⟩ => rfl | ⟨3, _⟩ => rfl
  have e60 : ∀ r : Fin 33, idx_main_v59 (idx_main_v60 (ix5 (0 : Fin 1) h n (0 : Fin 1) r)) = ix4 (0 : Fin 1) h n (0 : Fin 1) := fun r => funext fun a => by
    match a with | ⟨0, _⟩ => rfl | ⟨1, _⟩ => rfl | ⟨2, _⟩ => rfl | ⟨3, _⟩ => rfl
  have e65 : ∀ r : Fin 33, idx_main_v64 (idx_main_v65 (ix5 (0 : Fin 1) h n (0 : Fin 1) r)) = ix4 (0 : Fin 1) h n (0 : Fin 1) := fun r => funext fun a => by
    match a with | ⟨0, _⟩ => rfl | ⟨1, _⟩ => rfl | ⟨2, _⟩ => rfl | ⟨3, _⟩ => rfl
  have e63 : ∀ r : Fin 33, idx_main_v63 (ix4 (0 : Fin 1) h n (0 : Fin 1)) r = ix5 (0 : Fin 1) h n (0 : Fin 1) r := fun r => funext fun a => by
    match a with | ⟨0, _⟩ => rfl | ⟨1, _⟩ => rfl | ⟨2, _⟩ => rfl | ⟨3, _⟩ => rfl | ⟨4, _⟩ => rfl
  generalize hl : (fun r => val_main_v51 (F := Ideal) x0 x1 x2 x3 (ix5 (0 : Fin 1) h n (0 : Fin 1) r)) = l
  have hl' : ∀ r, val_main_v51 (F := Ideal) x0 x1 x2 x3 (ix5 (0 : Fin 1) h n (0 : Fin 1) r) = l r := fun r => congrFun hl r
  have h52 : val_main_v52 (F := Ideal) x0 x1 x2 x3 (ix4 (0 : Fin 1) h n (0 : Fin 1)) = Finset.univ.fold max ⊥ l :=
    (max_last _ _ (fun _ => ofBits_neg_inf) h n).trans (congrArg (fun f : Fin 33 → EReal => Finset.univ.fold max ⊥ f) hl)
  have h55 : ∀ r, val_main_v55 (F := Ideal) x0 x1 x2 x3 (ix5 (0 : Fin 1) h n (0 : Fin 1) r) = l r - Finset.univ.fold max ⊥ l := fun r => by
    rw [val_main_v55_apply, val_main_v54_apply, val_main_v53_apply, e54, h52, hl']; rfl
  have h56 : val_main_v56 (F := Ideal) x0 x1 x2 x3 (ix4 (0 : Fin 1) h n (0 : Fin 1))
      = Finset.univ.fold max ⊥ fun r => l r - Finset.univ.fold max ⊥ l :=
    (max_last _ _ (fun _ => ofBits_neg_inf) h n).trans (congrArg (fun f : Fin 33 → EReal => Finset.univ.fold max ⊥ f) (funext h55))
  have h58 : val_main_v58 (F := Ideal) x0 x1 x2 x3 (ix4 (0 : Fin 1) h n (0 : Fin 1))
      = max ⊥ (Finset.univ.fold max ⊥ fun r => l r - Finset.univ.fold max ⊥ l) := by
    rw [val_main_v58_apply, h56, val_main_v57_apply, val_main_cst_5_apply]
    exact congrArg (fun b : EReal => max b _) ofBits_neg_inf
  have h62 : ∀ r, val_main_v62 (F := Ideal) x0 x1 x2 x3 (ix5 (0 : Fin 1) h n (0 : Fin 1) r)
      = Ideal.exp (l r - Finset.univ.fold max ⊥ l - max ⊥ (Finset.univ.fold max ⊥ fun r => l r - Finset.univ.fold max ⊥ l)) := fun r => by
    rw [val_main_v62_apply, val_main_v61_apply, val_main_v60_apply, val_main_v59_apply, e60, h58, h55]; rfl
  have h66 : ∀ r, val_main_v66 (F := Ideal) x0 x1 x2 x3 (ix5 (0 : Fin 1) h n (0 : Fin 1) r)
      = Ideal.div (Ideal.exp (l r - Finset.univ.fold max ⊥ l - max ⊥ (Finset.univ.fold max ⊥ fun r => l r - Finset.univ.fold max ⊥ l)))
          (0 + ∑ k : Fin 33, Ideal.exp (l k - Finset.univ.fold max ⊥ l - max ⊥ (Finset.univ.fold max ⊥ fun r => l r - Finset.univ.fold max ⊥ l))) := fun r => by
    have hz : val_main_cst_6 (F := Ideal) (Shape.Idx.first h_S_) = 0 := ofBits_zero
    rw [val_main_v66_apply, val_main_v65_apply, val_main_v64_apply, e65, val_main_v63_apply, hz, h62]
    simp only [e63, h62]
    rfl
  rw [val_main_v69_apply]
  simp only [val_main_v67_apply, val_main_v68_apply, el, er, h66]
  rfl

end Cert.Knn

end
-- ==== Proof.RefOut.lean ====
/- The reference's result: its attention flattened, projected and reshaped. -/
module

public import proofs.«01_k».proof.Proof.RefAttend

@[expose] public section

set_option maxRecDepth 16384

noncomputable section

namespace Cert.Knn

open Idealize.ShloMosaic hiding ix0 ix1 ix2 ix3 ix4 ix5 ix6
open Idealize.ShloMosaic.ValueIdx Cert.ReferenceIdeal Cert.ReferenceIdeal.Gen Cert.ReferenceIdeal.Read Idealize.ShloMosaic.TcCoe

variable (x0 : (⟨S1x4x8x16x512, .f32⟩ : BufTy).Contents (Elt Ideal)) (x1 : (⟨S1x16384x2x64, .f32⟩ : BufTy).Contents (Elt Ideal))
  (x2 : (⟨S1536x512, .f32⟩ : BufTy).Contents (Elt Ideal)) (x3 : (⟨S1536, .f32⟩ : BufTy).Contents (Elt Ideal))
  (x4 : (⟨S512x512, .f32⟩ : BufTy).Contents (Elt Ideal)) (x5 : (⟨S512, .f32⟩ : BufTy).Contents (Elt Ideal))

/-- The reference's attention of head `h` at position `n`, column `d`. -/
def refAtt (h : Fin 8) (n : Fin 512) (d : Fin 64) : EReal := val_main_v69 (F := Ideal) x0 x1 x2 x3 (ix4 h n (0 : Fin 1) d)

/-- The flattened attention. -/
theorem ref_v73 (r q : Fin 512) : val_main_v73 (F := Ideal) x0 x1 x2 x3 (ix2 r q) = refAtt x0 x1 x2 x3 (headOf r q) (posOf r q) (colOf q) := by
  have e : idx_main_v70 (idx_main_v71 (idx_main_v72 (idx_main_v73 (ix2 r q)))) = ix4 (headOf r q) (posOf r q) (0 : Fin 1) (colOf q) := by
    have hr := r.isLt
    have hq := q.isLt
    have hf : ((((0 * 4 + (r.val * 512 + q.val) / 65536 % 4) * 8 + (r.val * 512 + q.val) / 8192 % 8) * 16 + (r.val * 512 + q.val) / 512 % 16) * 512
        + (r.val * 512 + q.val) % 512) = r.val * 512 + q.val := by omega
    refine funext fun a => Fin.ext ?_
    match a with
    | ⟨0, _⟩ =>
      show ((((0 * 4 + (r.val * 512 + q.val) / 65536 % 4) * 8 + (r.val * 512 + q.val) / 8192 % 8) * 16 + (r.val * 512 + q.val) / 512 % 16) * 512
        + (r.val * 512 + q.val) % 512) / 32768 % 8 = (r.val * 8 + q.val / 64) / 512
      rw [hf]; omega
    | ⟨1, _⟩ =>
      show ((((0 * 4 + (r.val * 512 + q.val) / 65536 % 4) * 8 + (r.val * 512 + q.val) / 8192 % 8) * 16 + (r.val * 512 + q.val) / 512 % 16) * 512
        + (r.val * 512 + q.val) % 512) / 64 % 512 = (r.val * 8 + q.val / 64) % 512
      rw [hf]; omega
    | ⟨2, _⟩ => rfl
    | ⟨3, _⟩ =>
      show ((((0 * 4 + (r.val * 512 + q.val) / 65536 % 4) * 8 + (r.val * 512 + q.val) / 8192 % 8) * 16 + (r.val * 512 + q.val) / 512 % 16) * 512
        + (r.val * 512 + q.val) % 512) % 64 = q.val % 64
      rw [hf]; omega
  rw [val_main_v73_apply, val_main_v72_apply, val_main_v71_apply, val_main_v70_apply, e]
  rfl

/-- The projection and its bias. -/
theorem ref_v78 : val_main_v78 (F := Ideal) x0 x1 x2 x3 x4 x5 = finish (refAtt x0 x1 x2 x3) x4 x5 := by
  funext i
  obtain ⟨r, e, rfl⟩ : ∃ r e : Fin 512, i = ix2 r e := ⟨i 0, i 1, ValueIdx.eq_ix2 i⟩
  have el : ∀ q : Fin 512, lidx_main_v75 (ix2 r e) q = ix2 r q := fun q => funext fun a => by
    match a with | ⟨0, _⟩ => rfl | ⟨1, _⟩ => rfl
  have er : ∀ q : Fin 512, idx_main_v74 (ridx_main_v75 (ix2 r e) q) = ix2 e q := fun q => funext fun a => by
    match a with | ⟨0, _⟩ => rfl | ⟨1, _⟩ => rfl
  have eb : idx_main_v76 (idx_main_v77 (ix2 r e)) = ix1 e := funext fun a => by
    match a with | ⟨0, _⟩ => rfl
  rw [val_main_v78_apply, val_main_v75_apply, val_main_v77_apply, val_main_v76_apply, eb]
  simp only [val_main_v74_apply, el, er, ref_v73]
  rfl

/-- The reference's result. -/
theorem ref_v79 : val_main_v79 (F := Ideal) x0 x1 x2 x3 x4 x5
    = shapeCast S1x4x8x16x512 (finish (refAtt x0 x1 x2 x3) x4 x5) shapeCasts_S512x512_S1x4x8x16x512 := by
  unfold val_main_v79
  rw [ref_v78]

end Cert.Knn

end
-- ==== Proof.OwnReal.lean ====
/- Normalised entries are real numbers, whatever the inputs, and so is each query's own logit. -/
module

public import proofs.«01_k».proof.Proof.Spec
public import proofs.«01_k».proof.Proof.Ops

@[expose] public section

noncomputable section

namespace Cert.Knn

open Idealize.ShloMosaic hiding ix0 ix1 ix2 ix3 ix4 ix5 ix6

/-- A square of an extended real is not negative. -/
theorem sq_nonneg_ereal (x : EReal) : 0 ≤ x * x := by
  induction x with
  | bot => simp
  | top => simp
  | coe r => rw [← EReal.coe_mul]; exact_mod_cast mul_self_nonneg r

/-- An extended real with a finite square is a real number. -/
theorem real_of_sq (x : EReal) (h : x * x < ⊤) : ∃ r : ℝ, x = r := by
  induction x with
  | bot => simp at h
  | top => simp at h
  | coe r => exact ⟨r, rfl⟩

/-- A finite sum of real numbers is one. -/
theorem real_sum {n : ℕ} (f : Fin n → EReal) (h : ∀ i, ∃ r : ℝ, f i = r) : ∃ r : ℝ, ∑ i, f i = r := by
  choose g hg using h
  refine ⟨∑ i, g i, ?_⟩
  simp only [hg]
  induction (Finset.univ : Finset (Fin n)) using Finset.induction_on with
  | empty => simp
  | insert a s ha ih => rw [Finset.sum_insert ha, Finset.sum_insert ha, ih, EReal.coe_add]

/-- A normalised entry is a real number: an infinite norm makes it zero, a finite one is positive and has real entries. -/
theorem normed_real (Q : Fin 1536 → EReal) (s : Fin 24) (d : Fin 64) : ∃ r : ℝ, normed Q s d = r := by
  obtain ⟨e, he, hE⟩ := ofBits_eps
  unfold normed segNorm
  rw [hE]
  have hle : Q (seg s d) * Q (seg s d) ≤ ∑ d : Fin 64, Q (seg s d) * Q (seg s d) :=
    Finset.single_le_sum (f := fun d => Q (seg s d) * Q (seg s d)) (fun i _ => sq_nonneg_ereal _) (Finset.mem_univ d)
  have h0 : 0 ≤ ∑ d : Fin 64, Q (seg s d) * Q (seg s d) := Finset.sum_nonneg fun i _ => sq_nonneg_ereal _
  generalize (∑ d : Fin 64, Q (seg s d) * Q (seg s d)) = S at hle h0 ⊢
  induction S with
  | bot => simp at h0
  | top =>
    refine ⟨0, ?_⟩
    have hm : max (Ideal.sqrt ⊤) (e : EReal) = ⊤ := max_eq_left le_top
    rw [hm, Ideal.div, if_neg (by simp), EReal.inv_top, mul_zero, EReal.coe_zero]
  | coe t =>
    obtain ⟨q, hq⟩ := real_of_sq _ (lt_of_le_of_lt hle (EReal.coe_lt_top t))
    have ht : ¬ t < 0 := not_lt.2 (by exact_mod_cast h0)
    have hs : Ideal.sqrt (t : EReal) = ((Real.sqrt t : ℝ) : EReal) := if_neg ht
    have hm : max (Ideal.sqrt (t : EReal)) (e : EReal) = ((max (Real.sqrt t) e : ℝ) : EReal) := by rw [hs]; exact (EReal.coe_strictMono.monotone.map_max).symm
    have hp : 0 < max (Real.sqrt t) e := lt_max_of_lt_right he
    refine ⟨q * (max (Real.sqrt t) e)⁻¹, ?_⟩
    rw [hm, hq, Ideal.div, if_neg (by exact_mod_cast hp.ne'), ← EReal.coe_inv, ← EReal.coe_mul]

/-- A query's own logit is a real number. -/
theorem own_real (Q : Fin 1536 → EReal) (h : Fin 8) : ∃ a : ℝ, own Q h = a := by
  obtain ⟨t, ht⟩ := real_sum (fun d => normed Q (qs h) d * normed Q (ks h) d) fun d => by
    obtain ⟨a, ha⟩ := normed_real Q (qs h) d
    obtain ⟨b, hb⟩ := normed_real Q (ks h) d
    exact ⟨a * b, by rw [ha, hb, EReal.coe_mul]⟩
  refine ⟨t * (1 / 8), ?_⟩
  unfold own
  rw [ht, EReal.coe_mul]

end Cert.Knn

end
-- ==== Proof.Equation.lean ====
/- The kernel's attention is the reference's, wherever the precondition holds. -/
module

public import proofs.«01_k».proof.Proof.PreRead
public import proofs.«01_k».proof.Proof.RefOut
public import proofs.«01_k».proof.Proof.OwnReal

@[expose] public section

set_option maxRecDepth 16384

noncomputable section

namespace Cert.Knn

open Idealize.ShloMosaic hiding ix0 ix1 ix2 ix3 ix4 ix5 ix6
open Idealize.ShloMosaic.ValueIdx Cert.ReferenceIdeal Cert.ReferenceIdeal.Gen Cert.ReferenceIdeal.Read Idealize.ShloMosaic.TcCoe

attribute [local instance] Cert.Pre_no_tied_neighbours.Gen.facts

variable (x0 : (⟨S1x4x8x16x512, .f32⟩ : BufTy).Contents (Elt Ideal)) (x1 : (⟨S1x16384x2x64, .f32⟩ : BufTy).Contents (Elt Ideal))
  (x2 : (⟨S1536x512, .f32⟩ : BufTy).Contents (Elt Ideal)) (x3 : (⟨S1536, .f32⟩ : BufTy).Contents (Elt Ideal))
  (x4 : (⟨S512x512, .f32⟩ : BufTy).Contents (Elt Ideal)) (x5 : (⟨S512, .f32⟩ : BufTy).Contents (Elt Ideal))

/-- One element of the attention. -/
theorem att_eq (hp : (Cert.Pre_no_tied_neighbours.fn (F := Ideal) x0 x1 x2 x3 x4 x5).1 = fun _ => 1#1)
    (hp' : (Cert.Pre_no_tied_neighbours.fn (F := Ideal) x0 x1 x2 x3 x4 x5).2 = fun _ => 1#1) (h : Fin 8) (n : Fin 512) (d : Fin 64) :
    kernelAtt x0 x1 x2 x3 h n d = refAtt x0 x1 x2 x3 h n d := by
  have hd := pre_decreasing x0 x1 x2 x3 x4 x5 hp h n
  have hf := pre_finite x0 x1 x2 x3 x4 x5 hp' h n
  obtain ⟨a, ha⟩ := own_real (rowQ x0 x2 x3 n) h
  refine Eq.trans ?_ (ref_v69 x0 x1 x2 x3 h n d).symm
  show kernelRow (simRow x0 x1 x2 x3 h n) ((1 / 8 : ℝ) : EReal) (own (rowQ x0 x2 x3 n) h)
    (fun j => x1 (ix4 (0 : Fin 1) j (1 : Fin 2) d)) (rowQ x0 x2 x3 n (seg (vs h) d)) = _
  rw [ha]
  exact kernelRow_eq (by decide) (simRow x0 x1 x2 x3 h n) (order (simRow x0 x1 x2 x3 h n)) (sortedFrom_surjective _) (sortedFrom_injective _)
    (order_anti _) (fun r hr => hd ⟨r.val, hr⟩) hf (1 / 8) (by norm_num) a _ _ _ _
    (fun r => ref_v51_mem x0 x1 x2 x3 h n r) ((ref_v51_own x0 x1 x2 x3 h n).trans ha)
    (fun r => ref_v43_mem x0 x1 x2 x3 h n r d) (ref_v43_own x0 x1 x2 x3 h n d)

/-- The whole result. -/
theorem result_eq (hp : (Cert.Pre_no_tied_neighbours.fn (F := Ideal) x0 x1 x2 x3 x4 x5).1 = fun _ => 1#1)
    (hp' : (Cert.Pre_no_tied_neighbours.fn (F := Ideal) x0 x1 x2 x3 x4 x5).2 = fun _ => 1#1) :
    val_main_v79 (F := Ideal) x0 x1 x2 x3 x4 x5
      = shapeCast S1x4x8x16x512 (finish (kernelAtt x0 x1 x2 x3) x4 x5) shapeCasts_S512x512_S1x4x8x16x512 := by
  have e : kernelAtt x0 x1 x2 x3 = refAtt x0 x1 x2 x3 :=
    funext fun h => funext fun n => funext fun d => att_eq x0 x1 x2 x3 x4 x5 hp hp' h n d
  rw [e]
  exact ref_v79 x0 x1 x2 x3 x4 x5

end Cert.Knn

end
-- ==== Proof.lean ====
/- The certificate: the three frames, the one named constant, and the equality of the kernel with the reference. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.KernelRun
public import proofs.«01_k».proof.Proof.PreFacts
public import proofs.«01_k».proof.Proof.Equation
public import Idealize.ShloMosaic.Adequacy
public import Idealize.ShloMosaic.Init
public import Idealize.ShloMosaic.Lib.Quiescent

@[expose] public section

noncomputable section

namespace Cert.Proof

open Idealize.ShloMosaic Idealize.SL.Sem

attribute [local instance] Cert.Pre_no_tied_neighbours.Gen.facts

/-- The reference runs, ends with its arguments unchanged, and declares no semaphore. -/
theorem frame_r : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The kernel and the reference, from memories agreeing on the arguments, end with equal results. -/
theorem algebraic : Cert.algebraic_KernelIdeal_ReferenceIdeal_pre_no_tied_neighbours := by
  intro m g m' g' hp hm
  refine ⟨fun c => Cert.KernelIdeal.Gen.W9 m g c (Proc.devRef .tc Cert.KernelIdeal.main_v37), Cert.KernelIdeal.Val.run m g,
    (θ_run Cert.ReferenceIdeal.defs _ _).mono (fun r h c => ⟨(h c).1.trans ?_, (h c).2⟩) (Cert.ReferenceIdeal.Value.run (F := Ideal) m' g')⟩
  obtain ⟨h0, h1, h2, h3, h4, h5⟩ := hm c
  refine (Cert.ReferenceIdeal.Read.val_main_v79_eq (F := Ideal) _).trans ?_
  refine Eq.trans ?_ (Cert.Knn.W9_eq m g c).symm
  rw [← Cert.Knn.result_eq _ _ _ _ _ _ (hp c).1 (hp c).2, ← h0, ← h1, ← h2, ← h3, ← h4, ← h5]

/-- Everything the certificate claims. -/
theorem claim : Cert.Claim := ⟨Cert.Kernel.Gen.facts, Cert.KernelIdeal.Gen.facts, Cert.ReferenceIdeal.Gen.facts,
  Cert.Pre_no_tied_neighbours.Gen.facts,
  fun m g _ => Cert.Kernel.Gen.frame m g,
  fun m g _ => Cert.KernelIdeal.Gen.frame m g,
  fun m g _ => Cert.KernelIdeal.Gen.frame m g,
  frame_r,
  fun m g _ => frame_r m g trivial,
  IdealRules.named_const.statement Cert.KernelIdeal.κ "mask" .f32 0xFF61B1E6#32 ⊥ rfl,
  algebraic⟩

end Cert.Proof

end
